-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_clear_choice [hKernelIdeal : Cert.KernelIdeal.Facts] [hReferenceIdeal : Cert.ReferenceIdeal.Facts] [hOn_clear_choice : Cert.On_clear_choice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 1024]⟩ : Shape).Idx, (Layout.blockN ⟨2, ![512, 1024]⟩ ⟨2, ![1024, 1024]⟩ (Layout.meshBlock [2, 2, 2] ![[0], []] c) ((Cert.On_clear_choice.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![512, 1024]⟩ : Shape).Idx → _) i = 1#1 → r.2.mem ((c.tc : Thread Cert.KernelIdeal.nD Cert.KernelIdeal.τ).loc Cert.KernelIdeal.main_v1) i = (Layout.blockN ⟨2, ![512, 1024]⟩ ⟨2, ![1024, 1024]⟩ (Layout.meshBlock [2, 2, 2] ![[0], []] c) v0 : (⟨2, ![512, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_clear_choice.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v28) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_clear_choice : Cert.On_clear_choice.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_choice (hKernelIdeal := hKernelIdeal) (hReferenceIdeal := hReferenceIdeal) (hOn_clear_choice := hOn_clear_choice)
-- ==== On_clear_choice.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x3 : Shape := ⟨2, ![1024, 3]⟩
abbrev S1024x1 : Shape := ⟨2, ![1024, 1]⟩
abbrev S1024 : Shape := ⟨1, ![1024]⟩
abbrev S_ : Shape := ⟨0, ![]⟩

class Facts : Prop where
  sliceFits_S1024x8_S1024x3 : S1024x8.Slices (fun _ => 0) S1024x3
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x8_S1024x8_1_0_0_1_n_n_wf : DotDims.WF S1024x1024 S1024x8 S1024x8 [1] [0] [0] [1] [] []

variable [Facts]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1024 1 :=
  let main_v0 : FVec F S1024x8 .f32 := (fun l r => Host.dotGeneral dot_S1024x1024_S1024x8_S1024x8_1_0_0_1_n_n none l r) main_arg0 main_arg1
  let main_values : FVec F S1024x3 .f32 := (fun x => (Host.topK S1024x3 1 (FloatOps.cmpfTotal .gt) x sliceFits_S1024x8_S1024x3).1) main_v0
  let main_indices : IVec S1024x3 32 := (fun x => (Host.topK S1024x3 1 (FloatOps.cmpfTotal .gt) x sliceFits_S1024x8_S1024x3).2) main_v0
  let main_v1 : FVec F S1024x1 .f32 := (extractStridedSlice S1024x1 ![0, 0] · slices_S1024x3_S1024x1_0_0) main_values
  let main_v2 : FVec F S1024 .f32 := shapeCast S1024 main_v1 shapeCasts_S1024x1_S1024
  let main_v3 : FVec F S1024x1 .f32 := (extractStridedSlice S1024x1 ![0, 1] · slices_S1024x3_S1024x1_0_1) main_values
  let main_v4 : FVec F S1024 .f32 := shapeCast S1024 main_v3 shapeCasts_S1024x1_S1024
  let main_v5 : IVec S1024 1 := cmpf .ogt main_v2 main_v4
  let main_v6 : FVec F S1024x1 .f32 := (extractStridedSlice S1024x1 ![0, 1] · slices_S1024x3_S1024x1_0_1) main_values
  let main_v7 : FVec F S1024 .f32 := shapeCast S1024 main_v6 shapeCasts_S1024x1_S1024
  let main_v8 : FVec F S1024x1 .f32 := (extractStridedSlice S1024x1 ![0, 2] · slices_S1024x3_S1024x1_0_2) main_values
  let main_v9 : FVec F S1024 .f32 := shapeCast S1024 main_v8 shapeCasts_S1024x1_S1024
  let main_v10 : IVec S1024 1 := cmpf .ogt main_v7 main_v9
  let main_v11 : IVec S1024 1 := andi main_v5 main_v10
  let main_v12 : FVec F S1024x1 .f32 := (extractStridedSlice S1024x1 ![0, 0] · slices_S1024x3_S1024x1_0_0) main_values
  let main_v13 : FVec F S1024 .f32 := shapeCast S1024 main_v12 shapeCasts_S1024x1_S1024
  let main_cst : FVec F S_ .f32 := constant S_ .f32 0x7F800000#32
  let main_v14 : FVec F S1024 .f32 := broadcastInDim S1024 ![] bcast_S_S1024 main_cst
  let main_v15 : IVec S1024 1 := cmpf .olt main_v13 main_v14
  let main_v16 : IVec S1024 1 := andi main_v11 main_v15
  let main_v17 : IVec S1024x1 1 := broadcastInDim S1024x1 ![0] bcast_S1024_S1024x1_0 main_v16
  let main_v18 : IVec S1024x1024 1 := broadcastInDim S1024x1024 ![0, 1] bcast_S1024x1_S1024x1024_0_1 main_v17
  main_v18
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1x1024x2048 : Shape := ⟨3, ![1, 1024, 2048]⟩
abbrev S1x2048x1024 : Shape := ⟨3, ![1, 2048, 1024]⟩
abbrev S512x8 : Shape := ⟨2, ![512, 8]⟩
abbrev S512x4 : Shape := ⟨2, ![512, 4]⟩
abbrev S8 : Shape := ⟨1, ![8]⟩
abbrev S_ : Shape := ⟨0, ![]⟩
abbrev S1 : Shape := ⟨1, ![1]⟩
abbrev S512 : Shape := ⟨1, ![512]⟩
abbrev S512x1 : Shape := ⟨2, ![512, 1]⟩
abbrev S1024x2048 : Shape := ⟨2, ![1024, 2048]⟩
abbrev S2048x1024 : Shape := ⟨2, ![2048, 1024]⟩
abbrev S1024x1024 : Shape := ⟨2, ![1024, 1024]⟩
abbrev S1x4 : Shape := ⟨2, ![1, 4]⟩

abbrev nBuf : Space → Nat
  | .hbm => 5
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1024x4, .f32⟩
  | .local _ .vmem, ⟨10, _⟩ => ⟨S512x8, .f32⟩
  | .local _ .vmem, ⟨11, _⟩ => ⟨S512x8, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x4, .f32⟩
  | .local _ .vmem, ⟨16, _⟩ => ⟨S512x4, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_8 : BitVec 32 := 0#32
  let v12 : BitVec 1 := Scalar.cmpi .ne v11 c0_i32_8
  v12

def k0_dev1 (d0 : Dev nD) : Nat :=
  let c0_i32_27 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_26 : BitVec 32 := 4#32
  let v31 : BitVec 32 := Scalar.muli v9 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v35 : BitVec 32 := Scalar.muli v8 c1_i32_29
  let v36 : BitVec 32 := Scalar.addi v34 v35
  v36.toNat
def k0_dev2 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v43 : BitVec 32 := Scalar.muli v9 c4_i32_35
  let v44 : BitVec 32 := Scalar.addi c0_i32_36 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v45 : BitVec 32 := Scalar.muli v5 c2_i32_37
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v47 : BitVec 32 := Scalar.muli v8 c1_i32_38
  let v48 : BitVec 32 := Scalar.addi v46 v47
  v48.toNat
def k0_dev3 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v53 : BitVec 32 := Scalar.muli v9 c4_i32_39
  let v54 : BitVec 32 := Scalar.addi c0_i32_40 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v55 : BitVec 32 := Scalar.muli v5 c2_i32_41
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v57 : BitVec 32 := Scalar.muli v8 c1_i32_42
  let v58 : BitVec 32 := Scalar.addi v56 v57
  v58.toNat
def k0_dev4 (d0 : Dev nD) : Nat :=
  let c0_i32_59 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_58 : BitVec 32 := 4#32
  let v87 : BitVec 32 := Scalar.muli v9 c4_i32_58
  let v88 : BitVec 32 := Scalar.addi c0_i32_59 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v89 : BitVec 32 := Scalar.muli v5 c2_i32_60
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v91 : BitVec 32 := Scalar.muli v8 c1_i32_61
  let v92 : BitVec 32 := Scalar.addi v90 v91
  v92.toNat
def k0_cond4 (i : grid0.Coords) : BitVec 1 :=
  let arg0 : BitVec 32 := BitVec.ofNat 32 (i 0).val
  let c3_i32_23 : BitVec 32 := 3#32
  let v27 : BitVec 1 := Scalar.cmpi .eq arg0 c3_i32_23
  let v28 : BitVec 32 := Scalar.extui v27
  let c0_i32_24 : BitVec 32 := 0#32
  let v29 : BitVec 1 := Scalar.cmpi .ne v28 c0_i32_24
  v29

def k0_dev5 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v59 : BitVec 32 := Scalar.muli v9 c4_i32_38
  let v60 : BitVec 32 := Scalar.addi c0_i32_39 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v61 : BitVec 32 := Scalar.muli v5 c2_i32_40
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v63 : BitVec 32 := Scalar.muli v8 c1_i32_41
  let v64 : BitVec 32 := Scalar.addi v62 v63
  v64.toNat
def k0_cond2 (i : grid0.Coords) : BitVec 1 :=
  let arg0 : BitVec 32 := BitVec.ofNat 32 (i 0).val
  let c0_i32_14 : BitVec 32 := 0#32
  let v19 : BitVec 1 := Scalar.cmpi .eq arg0 c0_i32_14
  let v20 : BitVec 32 := Scalar.extui v19
  let c0_i32_19 : BitVec 32 := 0#32
  let v21 : BitVec 1 := Scalar.cmpi .ne v20 c0_i32_19
  v21

def k0_cond3 (i : grid0.Coords) : BitVec 1 :=
  let arg0 : BitVec 32 := BitVec.ofNat 32 (i 0).val
  let c1_i32_20 : BitVec 32 := 1#32
  let v22 : BitVec 1 := Scalar.cmpi .eq arg0 c1_i32_20
  let c2_i32_21 : BitVec 32 := 2#32
  let v23 : BitVec 1 := Scalar.cmpi .eq arg0 c2_i32_21
  let v24 : BitVec 1 := Scalar.ori v22 v23
  let v25 : BitVec 32 := Scalar.extui v24
  let c0_i32_22 : BitVec 32 := 0#32
  let v26 : BitVec 1 := Scalar.cmpi .ne v25 c0_i32_22
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S8 : Shape := ⟨1, ![8]⟩
abbrev S1x1x8 : Shape := ⟨3, ![1, 1, 8]⟩
abbrev S1024x2x8 : Shape := ⟨3, ![1024, 2, 8]⟩
abbrev S8x1024x1024 : Shape := ⟨3, ![8, 1024, 1024]⟩
abbrev S8x1024 : Shape := ⟨2, ![8, 1024]⟩
abbrev S8x1024x1 : Shape := ⟨3, ![8, 1024, 1]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x2048, .f32⟩
  | .hbm, ⟨3, _⟩ => ⟨S8x2048x1024, .f32⟩
  | .hbm, ⟨4, _⟩ => ⟨S1024x8, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S1024x2x1, .i32⟩
  | .hbm, ⟨19, _⟩ => ⟨S8, .i32⟩
  | .hbm, ⟨20, _⟩ => ⟨S1x1x8, .i32⟩
  | .hbm, ⟨21, _⟩ => ⟨S1024x2x8, .i32⟩
  | .hbm, ⟨22, _⟩ => ⟨S1024x2x8, .i32⟩
  | .hbm, ⟨23, _⟩ => ⟨S1024x2x8, .i1⟩
  | .hbm, ⟨24, _⟩ => ⟨S1024x2x1, .f32⟩
  | .hbm, ⟨25, _⟩ => ⟨S_, .f32⟩
  | .hbm, ⟨26, _⟩ => ⟨S_, .f32⟩
  | .hbm, ⟨27, _⟩ => ⟨S1024x2x8, .f32⟩
  | .hbm, ⟨28, _⟩ => ⟨S1024x2x8, .f32⟩
  | .hbm, ⟨29, _⟩ => ⟨S1024x2x8, .f32⟩
  | .hbm, ⟨30, _⟩ => ⟨S_, .f32⟩
  | .hbm, ⟨31, _⟩ => ⟨S1024x8, .f32⟩
  | .hbm, ⟨32, _⟩ => ⟨S8x2048x1024, .f32⟩
  | .hbm, ⟨33, _⟩ => ⟨S8x1024x2048, .f32⟩
  | .hbm, ⟨34, _⟩ => ⟨S_, .f32⟩
  | .hbm, ⟨35, _⟩ => ⟨S8x1024x2048, .f32⟩
  | .hbm, ⟨36, _⟩ => ⟨S8x1024x2048, .f32⟩
  | .hbm, ⟨37, _⟩ => ⟨S8x1024x1024, .f32⟩
  | .hbm, ⟨38, _⟩ => ⟨S8x1024, .f32⟩
  | .hbm, ⟨39, _⟩ => ⟨S8x1024x1, .f32⟩
  | .hbm, ⟨40, _⟩ => ⟨S8x1024x1024, .f32⟩
  | .hbm, ⟨41, _⟩ => ⟨S8x1024x1024, .f32⟩
  | .hbm, ⟨42, _⟩ => ⟨S_, .f32⟩
  | .hbm, ⟨43, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Protocol.lean ====
/-
The exchange between a device and its partner across the first mesh axis.

Device `c` and its partner `peer c` (the device whose first mesh coordinate is the other one) meet on the barrier
semaphore and then send each other four things, each by one transfer with a send and a receive semaphore:
the rounded token rows, the router columns, the own rows' gates, and the partial outputs computed for the partner.
Nine cells per device: the barrier's (0), and for the four transfers send and receive (1,2), (3,4), (5,6), (7,8).
Each cell is used for one round with one duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-! ## The partner -/

set_option backward.proofsInPublic true in
/-- The device with the other first mesh coordinate. -/
def peer (c : Dev nD) : Dev nD := ⟨(c.val + 4) % 8, Nat.mod_lt _ (by decide)⟩

theorem peer_peer (c : Dev nD) : peer (peer c) = c := by revert c; decide

def swap : Dev nD ≃ Dev nD := ⟨peer, peer, peer_peer, peer_peer⟩

/-- The partner is what each of the program's device computations names. -/
theorem dev1_eq (c : Dev nD) : k0_dev1 c = (peer c).val := by revert c; decide
theorem dev2_eq (c : Dev nD) : k0_dev2 c = (peer c).val := by revert c; decide
theorem dev3_eq (c : Dev nD) : k0_dev3 c = (peer c).val := by revert c; decide
theorem dev4_eq (c : Dev nD) : k0_dev4 c = (peer c).val := by revert c; decide
theorem dev5_eq (c : Dev nD) : k0_dev5 c = (peer c).val := by revert c; decide

/-! ## The cells -/

abbrev barS : Sem sig := (SemArray.scalar (sig.barrier 0 rfl) : Sems sig S_).sem

/-- The eight transfer semaphores, as the program slices them off its array. -/
abbrev dS0 : DmaSem sig := ((cc0_scratch10.slice (Rect.unit (s := S8) ![0] S1.size inb_S8_S1_0)).squeeze S_ squeezes_S1_S_).sem
abbrev dS1 : DmaSem sig := ((cc0_scratch10.slice (Rect.unit (s := S8) ![1] S1.size inb_S8_S1_1)).squeeze S_ squeezes_S1_S_).sem
abbrev dS2 : DmaSem sig := ((cc0_scratch10.slice (Rect.unit (s := S8) ![2] S1.size inb_S8_S1_2)).squeeze S_ squeezes_S1_S_).sem
abbrev dS3 : DmaSem sig := ((cc0_scratch10.slice (Rect.unit (s := S8) ![3] S1.size inb_S8_S1_3)).squeeze S_ squeezes_S1_S_).sem
abbrev dS4 : DmaSem sig := ((cc0_scratch10.slice (Rect.unit (s := S8) ![4] S1.size inb_S8_S1_4)).squeeze S_ squeezes_S1_S_).sem
abbrev dS5 : DmaSem sig := ((cc0_scratch10.slice (Rect.unit (s := S8) ![5] S1.size inb_S8_S1_5)).squeeze S_ squeezes_S1_S_).sem
abbrev dS6 : DmaSem sig := ((cc0_scratch10.slice (Rect.unit (s := S8) ![6] S1.size inb_S8_S1_6)).squeeze S_ squeezes_S1_S_).sem
abbrev dS7 : DmaSem sig := ((cc0_scratch10.slice (Rect.unit (s := S8) ![7] S1.size inb_S8_S1_7)).squeeze S_ squeezes_S1_S_).sem

/-- The kernel's own scoped semaphores. -/
abbrev osem : Fin 8 → SemLoc sig := fun
  | 0 => .dma dS0 | 1 => .dma dS1 | 2 => .dma dS2 | 3 => .dma dS3 | 4 => .dma dS4 | 5 => .dma dS5 | 6 => .dma dS6 | 7 => .dma dS7
/-- All nine of the exchange: the barrier's, then those. -/
abbrev csem : Fin 9 → SemLoc sig := fun
  | 0 => .reg barS | 1 => .dma dS0 | 2 => .dma dS1 | 3 => .dma dS2 | 4 => .dma dS3 | 5 => .dma dS4 | 6 => .dma dS5 | 7 => .dma dS6 | 8 => .dma dS7
abbrev cell (c : Dev nD) (k : Fin 9) : GSem nD τ sig := ((c : Thread nD τ), csem k)

theorem csem_injective : Function.Injective csem := by decide

/-- Which of the nine a semaphore is. -/
def idx (s : SemLoc sig) : Option (Fin 9) := (List.finRange 9).find? fun k => decide (csem k = s)
theorem idx_csem : ∀ k : Fin 9, idx (csem k) = some k := by decide

theorem cell_injective : Function.Injective fun ck : Dev nD × Fin 9 => cell ck.1 ck.2 := by
  rintro ⟨c, k⟩ ⟨c', k'⟩ h
  have h1 : c = c' := congrArg (fun g : GSem nD τ sig => g.1.1) h
  have h2 : k = k' := csem_injective (congrArg Prod.snd h)
  rw [h1, h2]

/-! ## The buffers -/

abbrev xsM : Memref sig .tc .vmem S512x1024 .bf16 := Memref.whole cc0_scratch0
abbrev xpM : Memref sig .tc .vmem S512x1024 .bf16 := Memref.whole cc0_scratch1
abbrev rrM : Memref sig .tc .vmem S1024x4 .f32 := Memref.whole cc0_scratch2
abbrev gsM : Memref sig .tc .vmem S512x8 .f32 := Memref.whole cc0_scratch3
abbrev grM : Memref sig .tc .vmem S512x8 .f32 := Memref.whole cc0_scratch4
abbrev psM : Memref sig .tc .vmem S512x1024 .bf16 := Memref.whole cc0_scratch5
abbrev prM : Memref sig .tc .vmem S512x1024 .bf16 := Memref.whole cc0_scratch6
abbrev acM : Memref sig .tc .vmem S512x1024 .f32 := Memref.whole cc0_scratch7
abbrev woM : Memref sig .tc .vmem S512x4 .f32 := Memref.whole cc0_scratch8
abbrev wpM : Memref sig .tc .vmem S512x4 .f32 := Memref.whole cc0_scratch9
abbrev xM : Memref sig .tc .vmem S512x1024 .f32 := Memref.whole cc0_stg0_0
abbrev rM : Memref sig .tc .vmem S1024x4 .f32 := Memref.whole cc0_stg1_0
abbrev oM : Memref sig .tc .vmem S512x1024 .f32 := Memref.whole cc0_stg4_0

/-- What each cell is paid: one unit at the barrier, the landing buffer's credit at a transfer's two ends. -/
def amt : Fin 9 → ℕ := fun
  | 0 => 1
  | 1 => xpM.view.dmaCredit | 2 => xpM.view.dmaCredit
  | 3 => rrM.view.dmaCredit | 4 => rrM.view.dmaCredit
  | 5 => grM.view.dmaCredit | 6 => grM.view.dmaCredit
  | 7 => prM.view.dmaCredit | 8 => prM.view.dmaCredit
theorem amt_pos : ∀ k, 0 < amt k := fun
  | 0 => Nat.one_pos
  | 1 => View.dmaCredit_pos _ (by decide) | 2 => View.dmaCredit_pos _ (by decide)
  | 3 => View.dmaCredit_pos _ (by decide) | 4 => View.dmaCredit_pos _ (by decide)
  | 5 => View.dmaCredit_pos _ (by decide) | 6 => View.dmaCredit_pos _ (by decide)
  | 7 => View.dmaCredit_pos _ (by decide) | 8 => View.dmaCredit_pos _ (by decide)

/-! ## What each device computes -/

abbrev rXw : Rect S512x1024 := Rect.unit (s := S512x1024) ![0, 0] S512x1024.size inb_S512x1024_S512x1024_0_0

/-- Device `c`'s token rows and router columns, and its expert weights at point `t`. -/
def xblk (c : Dev nD) : Vec F S512x1024 .f32 := iblk m c 0 t0_0
def rblk (c : Dev nD) : Vec F S1024x4 .f32 := iblk m c 1 t0_0
def ablk (c : Dev nD) (t : Fin cfg0.N) : Vec F S1x1024x2048 .f32 := iblk m c 2 t
def bblk (c : Dev nD) (t : Fin cfg0.N) : Vec F S1x2048x1024 .f32 := iblk m c 3 t

/-- The device's first mesh coordinate, as the program computes it. -/
def side (c : Dev nD) : BitVec 32 := Scalar.remsi (Scalar.divsi (Dev.word c) 4#32) 2#32

/-- Own token rows, rounded; and the partner's. -/
def xs (c : Dev nD) : Vec F S512x1024 .bf16 := k0_pay3 (xblk m c)
def xp (c : Dev nD) : Vec F S512x1024 .bf16 := xs m (peer c)
/-- Gates of the own rows; and of the partner's. -/
def gs (c : Dev nD) : Vec F S512x8 .f32 := k0_pay5 (side c) (xblk m c) (rblk m c) (rblk m (peer c))
def gr (c : Dev nD) : Vec F S512x8 .f32 := gs m (peer c)
/-- Weights of the local experts for the own rows; and for the partner's. -/
def wo (c : Dev nD) : Vec F S512x4 .f32 :=
  k0_pay16 c (k0_pay4 (side c) (xblk m c) (rblk m c) (rblk m (peer c))) (k0_pay6 (side c) (xblk m c) (rblk m c) (rblk m (peer c)))
    (k0_pay7 (side c) (xblk m c) (rblk m c) (rblk m (peer c)))
def wq (c : Dev nD) : Vec F S512x4 .f32 := k0_pay9 (side c) (gr m c)
/-- Column 0 and column 3 of a weights buffer. -/
def col0 (w : Vec F S512x4 .f32) : Vec F S512x1 .f32 :=
  fun x => w ((Rect.unit (s := S512x4) ![0, 0] S512x1.size inb_S512x4_S512x1_0_0).toLoadRect.idx x)
def col3 (w : Vec F S512x4 .f32) : Vec F S512x1 .f32 :=
  fun x => w ((Rect.unit (s := S512x4) ![0, 3] S512x1.size inb_S512x4_S512x1_0_3).toLoadRect.idx x)

/-- The expert number a point works on, as the program reads it off its grid. -/
def pt (t : Fin cfg0.N) : BitVec 32 := BitVec.ofNat 32 (grid0.coords t 0).val

/-- The output buffer after each of the first three points. -/
def out0 (c : Dev nD) : Vec F S512x1024 .f32 := k0_pay8 (k0_pay17 (ablk m c t0_0)) (k0_pay18 (bblk m c t0_0)) (xs m c) (col0 (wo m c))
def outN (c : Dev nD) (t : Fin cfg0.N) (prev : Vec F S512x1024 .f32) : Vec F S512x1024 .f32 :=
  k0_pay12 (pt t) (k0_pay17 (ablk m c t)) (k0_pay18 (bblk m c t)) (wo m c) prev (xs m c)
/-- The partial outputs for the partner after each of the first three points. -/
def acc0 (c : Dev nD) : Vec F S512x1024 .f32 := k0_pay19 (ablk m c t0_0) (bblk m c t0_0) (xp m c) (col0 (wq m c))
def accN (c : Dev nD) (t : Fin cfg0.N) (prev : Vec F S512x1024 .f32) : Vec F S512x1024 .f32 :=
  k0_pay1 (k0_pay17 (ablk m c t)) (k0_pay18 (bblk m c t)) (k0_pay11 (pt t) (wq m c)) prev (xp m c)
def out1 (c : Dev nD) := outN m c t0_1 (out0 m c)
def out2 (c : Dev nD) := outN m c t0_2 (out1 m c)
def acc1 (c : Dev nD) := accN m c t0_1 (acc0 m c)
def acc2 (c : Dev nD) := accN m c t0_2 (acc1 m c)
/-- The finished partial outputs, rounded, sent to the partner. -/
def ps (c : Dev nD) : Vec F S512x1024 .bf16 :=
  k0_pay13 (k0_pay17 (ablk m c t0_3)) (k0_pay18 (bblk m c t0_3)) (acc2 m c) (xp m c) (col3 (wq m c))
def pr (c : Dev nD) : Vec F S512x1024 .bf16 := ps m (peer c)
/-- The result. -/
def out3 (c : Dev nD) : Vec F S512x1024 .f32 :=
  k0_pay2 (k0_pay14 (k0_pay17 (ablk m c t0_3)) (k0_pay18 (bblk m c t0_3)) (xs m c) (col3 (wo m c)) (out2 m c)) (k0_pay15 (pr m c))

/-- The output buffer and the partner's partial outputs after point `t`. -/
def outAt (c : Dev nD) (t : ℕ) : Vec F S512x1024 .f32 :=
  match t with | 0 => out0 m c | 1 => out1 m c | 2 => out2 m c | _ => out3 m c
def accAt (c : Dev nD) (t : ℕ) : Vec F S512x1024 .f32 :=
  match t with | 0 => acc0 m c | 1 => acc1 m c | _ => acc2 m c

/-! ## The schedule -/

/-- Buffer `b` of device `c`, whole, at share `q`, holding `f`. -/
abbrev pts (c : Dev nD) (b : Ref sig .tc) (q : PosShare TreeShare) (f : b.ty.Contents (Elt F)) : sProp 𝕄 :=
  (owns (c : Thread nD τ) (Memref.whole b) q f : sProp 𝕄)
/-- The same at some contents. -/
abbrev some' (c : Dev nD) (b : Ref sig .tc) : sProp 𝕄 := iprop(∃ f : b.ty.Contents (Elt F), pts c b fullShare f)

/-- What arriving at `c`'s cell `k` hands to `c`: at the barrier the partner's four landing buffers; at a send cell
    the source back (of the token rows half a share: the other half stays with the device, which reads them meanwhile);
    at a receive cell the landing buffer with the partner's data in it. -/
def pay (c : Dev nD) : Fin 9 → sProp 𝕄 := fun
  | 0 => iprop(some' (peer c) cc0_scratch1 ∗ some' (peer c) cc0_scratch2 ∗ some' (peer c) cc0_scratch4 ∗ some' (peer c) cc0_scratch6)
  | 1 => pts c cc0_scratch0 fullShare.left (xs m c)
  | 2 => pts c cc0_scratch1 fullShare (xp m c)
  | 3 => pts c cc0_stg1_0 fullShare (rblk m c)
  | 4 => pts c cc0_scratch2 fullShare (rblk m (peer c))
  | 5 => pts c cc0_scratch3 fullShare (gs m c)
  | 6 => pts c cc0_scratch4 fullShare (gr m c)
  | 7 => pts c cc0_scratch5 fullShare (ps m c)
  | 8 => pts c cc0_scratch6 fullShare (pr m c)

instance pay_storable (c : Dev nD) (k : Fin 9) : BI.Storable (upEmb : UEmb _ 𝕄) (pay m c k) := by
  fin_cases k <;> (simp only [pay]; infer_instance)

/-- One round, round 0, with one duty at each of the nine cells of every device. -/
def sched : Rounds.Schedule (GSem nD τ sig) Unit 𝕄 where
  duties g r := if r = 0 ∧ g.1.2 = .tc ∧ (idx g.2).isSome then {()} else ∅
  unitless _ := False
  amount g _ _ := match idx g.2 with | some k => amt k | none => 1
  payload g _ _ := match idx g.2 with | some k => pay m g.1.1 k | none => iprop(emp)
  amount_pos g _ _ _ := by
    split
    · exact amt_pos _
    · exact Nat.one_pos

instance sched_storable (g : GSem nD τ sig) (r : ℕ) (d : Unit) : BI.Storable (upEmb : UEmb _ 𝕄) ((sched (F := F) m).payload g r d) := by
  show BI.Storable upEmb (match idx g.2 with | some k => pay m g.1.1 k | none => iprop(emp))
  split <;> infer_instance

section Sched
variable (c : Dev nD) (k : Fin 9)

theorem duties_cell : (sched (F := F) m).duties (cell c k) 0 = {()} := by
  dsimp only [sched]; exact if_pos ⟨rfl, rfl, by rw [idx_csem]; rfl⟩
theorem mem_duties : () ∈ (sched (F := F) m).duties (cell c k) 0 := by rw [duties_cell]; exact Finset.mem_singleton_self _
theorem duties_later (g : GSem nD τ sig) : ∀ r, 1 ≤ r → (sched (F := F) m).duties g r = ∅ :=
  fun r hr => by dsimp only [sched]; exact if_neg fun h => by omega
theorem amount_cell (d : Unit) : (sched (F := F) m).amount (cell c k) 0 d = amt k := by dsimp only [sched]; rw [idx_csem]
theorem payload_cell (d : Unit) : (sched (F := F) m).payload (cell c k) 0 d = pay m c k := by dsimp only [sched]; rw [idx_csem]
theorem expect_cell : (sched (F := F) m).expect (cell c k) 0 = amt k := by
  unfold Schedule.expect Schedule.amountOf; rw [duties_cell, Finset.sum_singleton, amount_cell]
theorem rest_cell : bigSep ((sched (F := F) m).duties (cell c k) 0 \ ∅) (fun d => (sched (F := F) m).payload (cell c k) 0 d) = pay m c k := by
  rw [Finset.sdiff_empty, duties_cell, bigSep_singleton, payload_cell]

end Sched

/-! ## What each device owes; the levels -/

/-- What device `c` owes its partner's cells `ks`. -/
def owe (c : Dev nD) : List (Fin 9) → CellTallies nD τ sig Unit
  | [] => 0
  | k :: ks => owe c ks + tallyAt (cell (peer c) k) () (amt k)

/-- At launch: the barrier's unit and the four receive cells' credits, in the order in which they are paid. -/
def O₀ (c : Dev nD) : CellTallies nD τ sig Unit := owe c [0, 2, 4, 6, 8]

theorem cell_eq_iff {c d : Dev nD} {k j : Fin 9} : cell c k = cell d j ↔ c = d ∧ k = j :=
  ⟨fun h => by have := @cell_injective (c, k) (d, j) h; exact ⟨congrArg Prod.fst this, congrArg Prod.snd this⟩, fun ⟨h, h'⟩ => h ▸ h' ▸ rfl⟩

theorem owe_pos {c : Dev nD} {ks : List (Fin 9)} {g : GSem nD τ sig} {u : Unit} (h : 0 < owe c ks g u) : ∃ k ∈ ks, g = cell (peer c) k := by
  induction ks with
  | nil => exact absurd h (Nat.lt_irrefl 0)
  | cons k ks ih =>
    unfold owe at h
    rw [Pi.add_apply, Finsupp.add_apply, tallyAt_apply] at h
    by_cases hk : g = cell (peer c) k
    · exact ⟨k, List.mem_cons_self .., hk⟩
    · rw [if_neg fun h' => hk h'.1, Nat.add_zero] at h
      obtain ⟨j, hj, hg⟩ := ih h
      exact ⟨j, List.mem_cons_of_mem _ hj, hg⟩

/-- What device `d` owes a cell of device `c`. -/
theorem owe_at (d c : Dev nD) (k : Fin 9) (ks : List (Fin 9)) (hks : ks.Nodup) :
    owe d ks (cell c k) () = if d = peer c then (if k ∈ ks then amt k else 0) else 0 := by
  induction ks with
  | nil => simp [owe]
  | cons j ks ih =>
    unfold owe
    rw [Pi.add_apply, Finsupp.add_apply, tallyAt_apply, ih (List.nodup_cons.mp hks).2]
    have hj := (List.nodup_cons.mp hks).1
    by_cases hd : d = peer c
    · subst hd
      rw [peer_peer]
      by_cases hk : k = j
      · subst hk; simp [hj]
      · simp [csem_injective.eq_iff, hk]
    · have hne : ¬ (cell c k = cell (peer d) j ∧ () = ()) := fun h => hd (by rw [(cell_eq_iff.mp h.1).1, peer_peer])
      rw [if_neg hd, if_neg hd, if_neg hne]

/-- Levels: staging and send cells lowest, then the barrier, then the receive cells in the order they are waited for. -/
def lvk : Fin 9 → ℕ := fun | 0 => 1 | 4 => 2 | 2 => 3 | 6 => 3 | 8 => 4 | _ => 0
def L (g : GSem nD τ sig) : Finset Unit := if g.1.2 = .tc then {()} else ∅
def lv (g : GSem nD τ sig) (_ : Unit) : ℕ := match idx g.2 with | some k => lvk k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 9) (u : Unit) : lv (cell c k) u = lvk k := by unfold lv; rw [idx_csem]

/-- A device may wait on a semaphore of its own when everything it owes lies above it. -/
theorem mayWait (c : Dev nD) (sm : SemLoc sig) (n : ℕ) (hn : lv ((c : Thread nD τ), sm) () ≤ n) (ks : List (Fin 9)) (hks : ∀ k ∈ ks, n < lvk k) :
    (levAts L lv : sProp 𝕄) ⊢ MayWait (c : Thread nD τ) sm () (owe c ks) :=
  MayOwe.of_cut (L := L) (lev := lv) n (fun p hp => by rw [Finset.mem_singleton.mp hp, L_tc]; exact Finset.mem_singleton_self _)
    (fun g u hg => by obtain ⟨k, _, rfl⟩ := owe_pos hg; exact Finset.mem_singleton_self _)
    (fun p hp => by rw [Finset.mem_singleton.mp hp]; exact hn)
    (fun g u hg => by obtain ⟨k, hk, rfl⟩ := owe_pos hg; rw [lv_cell]; exact hks k hk)

theorem mayWait_cell (c : Dev nD) (k : Fin 9) (ks : List (Fin 9)) (hks : ∀ j ∈ ks, lvk k < lvk j) :
    (levAts L lv : sProp 𝕄) ⊢ MayWait (c : Thread nD τ) (csem k) () (owe c ks) :=
  mayWait c (csem k) (lvk k) (le_of_eq (lv_cell c k ())) ks hks

end Cert.Moe

end
-- ==== Proof.Steps.lean ====
/-
One step each: the exchange's signal, waits and transfers as rules at the head of a program, and the whole-buffer
loads and stores.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The kernel body's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' standing facts -/

/-- Every device's nine cells, under the names `K`: their invariants, and that each is at its round. -/
def records (K : Dev nD × Fin 9 → ℕ) : sProp 𝕄 :=
  iprop((bigSep Finset.univ fun ck : Dev nD × Fin 9 => cellInv ER (sched m) (K ck) (cell ck.1 ck.2))
    ∗ bigSep Finset.univ fun ck : Dev nD × Fin 9 => reached ER (cell ck.1 ck.2) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (sched m) (K ck) (cell ck.1 ck.2) : sProp 𝕄)) ⊢ cellInv ER (sched m) (K ck) (cell ck.1 ck.2) :=
  bigSep_elim (Finset.mem_univ ck)
theorem reached_at (ck : Dev nD × Fin 9) :
    (bigSep Finset.univ fun ck : Dev nD × Fin 9 => (reached ER (cell ck.1 ck.2) 0 : sProp 𝕄)) ⊢ reached ER (cell ck.1 ck.2) 0 :=
  bigSep_elim (Finset.mem_univ ck)
theorem records_inv (K : Dev nD × Fin 9 → ℕ) (c : Dev nD) (k : Fin 9) : records m K ⊢ cellInv ER (sched m) (K (c, k)) (cell c k) := by
  unfold records
  iintro ⟨H, -⟩
  iapply (inv_at m K (c, k)); iexact H
theorem records_reached (K : Dev nD × Fin 9 → ℕ) (c : Dev nD) (k : Fin 9) : records m K ⊢ reached ER (cell c k) 0 := by
  unfold records
  iintro ⟨-, H⟩
  iapply (reached_at (c, k)); iexact H

/-- What device `c` owes, whatever it has waited for. -/
def owesE (c : Dev nD) (ks : List (Fin 9)) : sProp 𝕄 := iprop(∃ W, owes (c : Thread nD τ) (owe c ks) W)

/-! ## The signal -/

theorem wp_ring (K : Dev nD × Fin 9 → ℕ) (c n : Dev nD) (hn : n = peer c) (ks : List (Fin 9)) {α : Type} {Q : α → sProp 𝕄}
    {k : PUnit → Prog (TpuEff nD τ sig (Elt F) Λ₀ .tc) α} :
    iprop(records m K ∗ owesE c (0 :: ks) ∗ dutyTok ER (cell (peer c) 0) 0 () ∗ pay m (peer c) 0)
      ⊢ iprop((owesE c ks -∗ WP c (k ⟨⟩) Q) -∗ WP c (.op (.semSignal (n, .tc) barS (1#32).toInt) k) Q) := by
  subst hn
  unfold owesE
  iintro ⟨#Hr, ⟨%W, HO⟩, Htok, Hpay⟩ Hk
  ihave #HI := (records_inv m K (peer c) 0) $$ Hr
  ihave #HR := (records_reached m K (peer c) 0) $$ Hr
  iapply (Rounds.wp_signal 𝒱₀ ER (sched m) (c : Thread nD τ) none (dst := (peer c : Thread nD τ)) (κ := K (peer c, 0))
      (d := ()) (mem_duties m (peer c) 0) ((amount_cell m (peer c) 0 ()).trans (by decide)) () (owe c ks) rfl) $$ [HO Htok Hpay]
  · isplitr; · iexact HI
    isplitl [HO]; · iexact HO
    isplitl [Htok]; · iexact Htok
    isplitl [Hpay]; · ihave Hp := (Entails.of_eq (payload_cell m (peer c) 0 ()).symm) $$ Hpay; iexact Hp
    iexact HR
  iintro HO
  iapply Hk
  iexists W
  iexact HO

/-! ## The waits -/

/-- A wait for all of cell `k`: its payload comes, and the cell closes at zero. -/
theorem wp_take (K : Dev nD × Fin 9 → ℕ) (c : Dev nD) (k : Fin 9) (ks : List (Fin 9)) (hks : ∀ j ∈ ks, lvk k < lvk j)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) (amt k) K')
    {α : Type} {Q : α → sProp 𝕄} {kk : PUnit → Prog (TpuEff nD τ sig (Elt F) Λ₀ .tc) α} :
    iprop(records m K ∗ levAts L lv ∗ owesE c ks ∗ cred (tallyAt (cell c k) () (amt k)) ∗ atPos ER (cell c k) 0 ∅ 0)
      ⊢ iprop(((owesE c ks ∗ semVal (cell c k) 0 ∗ pay m c k) -∗ WP c (kk ⟨⟩) Q) -∗ WP c (.op w kk) Q) := by
  unfold owesE
  iintro ⟨#Hr, #Hlev, ⟨%W, HO⟩, Hc, Hat⟩ Hk
  ihave #HI := (records_inv m K c k) $$ Hr
  iapply (Rounds.wp_wait_rest_token 𝒱₀ ER (sched m) (c : Thread nD τ) none (κ := K (c, k))
      hw (Set.mem_univ _) () (O := owe c ks) (W := W) (R := 0) (m := 0) (T := ∅)
      (by rw [Nat.zero_add, expect_cell])) $$ [Hc HO Hat]
  · isplitr; · iexact HI
    isplitl [Hc]; · iexact Hc
    isplitl [HO]; · iexact HO
    isplitr; · iapply (mayWait_cell c k ks hks); iexact Hlev
    iexact Hat
  iintro ⟨HO, Hat, -, Hpay⟩
  ihave Hp := (Entails.of_eq (rest_cell m c k)) $$ Hpay
  imod (Rounds.cell_close ER (sched m) (Set.mem_univ (K (c, k))) (fun h => h) (R := 0 + 1) (duties_later m (cell c k))) $$ [Hat] with Hz
  · isplitr; · iexact HI
    iexact Hat
  iapply Hk
  isplitl [HO]; · iexists _; iexact HO
  isplitl [Hz]; · iexact Hz
  iexact Hp

/-! ## The transfers -/

theorem raw_owns {c : Dev nD} {sp : Space} {s : Shape} {e : EltTy} {M : Memref sig .tc sp s e} {q : PosShare TreeShare} {X : s.Idx → Elt F e}
    {f : Buf (Elt F) (M.view.loc (c : Thread nD τ))} (h : M.view.read (Elt F) f = X) :
    (M.view.loc (c : Thread nD τ) ↦[M.view.set]{q} f : sProp 𝕄) ⊢ owns (c : Thread nD τ) M q X := by
  unfold owns
  iintro H
  iexists f
  isplitr; · ipureintro; exact h
  iexact H

/-- A transfer to the partner: the source goes with the send cell `j`, the written destination with the partner's
    receive cell `k`. -/
theorem wp_put (K : Dev nD × Fin 9 → ℕ) (c n : Dev nD) (hn : n = peer c) (j k : Fin 9) (ks : List (Fin 9))
    {s : Shape} {e : EltTy} {src dst : Memref sig .tc .vmem s e} {sS sR : SemLoc sig} (hS : sS = csem j) (hR : sR = csem k)
    {hsc : (dst : Memref sig (Dev.tc n : Thread nD τ).2.kind .vmem s e).view.ref.isScScratch = false}
    {hsrc : src.view.WordExact} {hdst : dst.view.WordExact}
    {hsem : DmaTarget.Typed .vmem sR (.remote (Dev.tc n : Thread nD τ) (dst : Memref sig (Dev.tc n : Thread nD τ).2.kind .vmem s e) sS hsc)}
    (hN : dst.view.amount sR = amt k) (hjk : amt j = amt k) {q : PosShare TreeShare} {X Y : s.Idx → Elt F e}
    (hpay₁ : owns (c : Thread nD τ) src q X ⊢ pay m c j)
    (hpay₂ : owns (peer c : Thread nD τ) dst fullShare X ⊢ pay m (peer c) k)
    {α : Type} {Q : α → sProp 𝕄} {kk : PUnit → Prog (TpuEff nD τ sig (Elt F) Λ₀ .tc) α} :
    iprop(records m K ∗ owesE c (k :: ks) ∗ dutyTok ER (cell c j) 0 () ∗ dutyTok ER (cell (peer c) k) 0 ()
        ∗ owns (c : Thread nD τ) src q X ∗ owns (peer c : Thread nD τ) dst fullShare Y)
      ⊢ iprop(((owesE c ks ∗ cred (tallyAt (cell c j) () (amt j))) -∗ WP c (kk ⟨⟩) Q)
          -∗ WP c (.op (.enqueueDma src (.remote (Dev.tc n : Thread nD τ) dst sS hsc) sR hsrc hdst hsem) kk) Q) := by
  subst hn hS hR
  unfold owesE
  iintro ⟨#Hr, ⟨%W, HO⟩, Ht1, Ht2, Hs, Hd⟩ Hk
  unfold owns
  icases Hs with ⟨%fs, %hfs, Hs⟩
  icases Hd with ⟨%fd, %hfd, Hd⟩
  have h1 : (src.view.loc (c : Thread nD τ) ↦[src.view.set]{q} fs : sProp 𝕄) ⊢ pay m c j := by
    exact (raw_owns hfs).trans hpay₁
  have h2 : (dst.view.loc (peer c : Thread nD τ) ↦[dst.view.set]{fullShare} (dst.view.write (Elt F) fd (src.view.read (Elt F) fs) Finset.univ) : sProp 𝕄)
      ⊢ pay m (peer c) k := by
    exact (raw_owns ((View.read_write_univ ..).trans hfs)).trans hpay₂
  ihave #HI1 := (records_inv m K c j) $$ Hr
  ihave #HI2 := (records_inv m K (peer c) k) $$ Hr
  ihave #HR1 := (records_reached m K c j) $$ Hr
  ihave #HR2 := (records_reached m K (peer c) k) $$ Hr
  iapply (Rounds.wp_send_pointsTo 𝒱₀ ER (sched m) (c : Thread nD τ) none (κ₁ := K (c, j)) (κ₂ := K (peer c, k))
    (r₁ := 0) (r₂ := 0) (d₁ := ()) (d₂ := ()) (fs := fs) (fd := fd) (mem_duties m c j) (mem_duties m (peer c) k)
    () () (amt k) hN ((amount_cell m c j ()).trans hjk) (amount_cell m (peer c) k ()) (owe c ks) rfl (W := W)
    (by rw [payload_cell]; exact h1) (by rw [payload_cell]; exact h2)) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  rw [hjk]
  isplitl [HO]; · iexists W; iexact HO
  iexact Hc

/-! ## Loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- Loading a whole memref through its whole rectangle reads its contents. -/
theorem readAt_whole {sp : Space} {s : Shape} {e : EltTy} {M : Memref sig .tc sp s e} (h : M.IsWhole) {off : Fin s.rank → ℕ} (ho : off = fun _ => 0)
    (inb : ∀ a, off a + s.size a ≤ s.size a) (f : M.view.ty.Contents (Elt F)) :
    M.view.readAt (Elt F) (Rect.unit (s := s) off s.size inb).toLoadRect f = M.view.read (Elt F) f := by
  obtain ⟨b, rfl, rfl, rfl, h⟩ := h
  cases h
  exact (Memref.readAt_unit_zero (Elt F) b ho inb f).trans (by simp only [Memref.view_whole, View.read_whole])

/-- A load of a whole buffer. -/
theorem wp_get {c : Dev nD} {s : Shape} {e : EltTy} {M : Memref sig .tc .vmem s e} (h : M.IsWhole) {off : Fin s.rank → ℕ} (ho : off = fun _ => 0)
    {inb : ∀ a, off a + s.size a ≤ s.size a} {hl : M.view.LoadsAt (Rect.unit (s := s) off s.size inb).toLoadRect} {q : PosShare TreeShare} {X : s.Idx → Elt F e}
    {α : Type} {Q : α → sProp 𝕄} {kk : (s.Idx → Elt F e) → Prog (TpuEff nD τ sig (Elt F) Λ₀ .tc) α} :
    (owns (c : Thread nD τ) M q X : sProp 𝕄)
      ⊢ iprop((owns (c : Thread nD τ) M q X -∗ WP c (kk X) Q) -∗ WP c (.op (.load M (Rect.unit (s := s) off s.size inb).toLoadRect hl) kk) Q) := by
  unfold owns
  iintro ⟨%f, %hf, Hx⟩ Hk
  iapply (wp_load 𝒱₀ (c : Thread nD τ) none Set.univ (m := M) (by rw [h.set_eq_univ]; exact Finset.subset_univ _)) $$ Hx
  iintro Hx
  rw [readAt_whole h ho inb f, hf]
  iapply Hk
  iexists f
  isplitr; · ipureintro; exact hf
  iexact Hx

/-- A load of a part of a whole buffer. -/
theorem wp_getAt {c : Dev nD} {s : Shape} {e : EltTy} {M : Memref sig .tc .vmem s e} (h : M.IsWhole) {r : LoadRect s}
    {hl : M.view.LoadsAt r} {q : PosShare TreeShare} {X : s.Idx → Elt F e}
    {α : Type} {Q : α → sProp 𝕄} {kk : (r.shape.Idx → Elt F e) → Prog (TpuEff nD τ sig (Elt F) Λ₀ .tc) α} :
    (owns (c : Thread nD τ) M q X : sProp 𝕄)
      ⊢ iprop((owns (c : Thread nD τ) M q X -∗ WP c (kk fun x => X (r.idx x)) Q) -∗ WP c (.op (.load M r hl) kk) Q) := by
  unfold owns
  iintro ⟨%f, %hf, Hx⟩ Hk
  iapply (wp_load 𝒱₀ (c : Thread nD τ) none Set.univ (m := M) (by rw [h.set_eq_univ]; exact Finset.subset_univ _)) $$ Hx
  iintro Hx
  subst hf
  iapply Hk
  iexists f
  isplitr; · (ipureintro; rfl)
  iexact Hx

/-- A store to a whole buffer, of all of it. -/
theorem write_whole {sp : Space} {s : Shape} {e : EltTy} {M : Memref sig .tc sp s e} (h : M.IsWhole) {off : Fin s.rank → ℕ} (ho : off = fun _ => 0)
    (inb : ∀ a, off a + s.size a ≤ s.size a) (f : M.view.ty.Contents (Elt F)) (X : s.Idx → Elt F e) :
    M.view.read (Elt F) ((M.access (Rect.unit (s := s) off s.size inb)).write (Elt F) f X Finset.univ) = X := by
  obtain ⟨b, rfl, rfl, rfl, h⟩ := h
  cases h
  rw [Memref.write_access_unit_zero_univ (Elt F) b ho inb f X]
  simp only [Memref.view_whole, View.read_whole]

theorem wp_set {c : Dev nD} {s : Shape} {e : EltTy} {M : Memref sig .tc .vmem s e} (h : M.IsWhole) {off : Fin s.rank → ℕ} (ho : off = fun _ => 0)
    {inb : ∀ a, off a + s.size a ≤ s.size a} {X Y : s.Idx → Elt F e}
    {hx : (M.access (Rect.unit (s := s) off s.size inb)).Stores Finset.univ} {hm : (Finset.univ : Finset (Rect.unit (s := s) off s.size inb).shape.Idx) = Finset.univ ∨ ∀ a, (Rect.unit (s := s) off s.size inb).stride a = 1}
    {α : Type} {Q : α → sProp 𝕄} {kk : PUnit → Prog (TpuEff nD τ sig (Elt F) Λ₀ .tc) α} :
    (owns (c : Thread nD τ) M fullShare Y : sProp 𝕄)
      ⊢ iprop((owns (c : Thread nD τ) M fullShare X -∗ WP c (kk ⟨⟩) Q) -∗ WP c (.op (.store M (Rect.unit (s := s) off s.size inb) X Finset.univ hx hm) kk) Q) := by
  unfold owns
  iintro ⟨%f, %hf, Hx⟩ Hk
  iapply (wp_store 𝒱₀ (c : Thread nD τ) none Set.univ (m := M) (r := Rect.unit (s := s) off s.size inb) (Mk := Finset.univ)
    (by rw [h.set_eq_univ]; exact Finset.subset_univ _)) $$ Hx
  iintro Hx
  iapply Hk
  iexists _
  isplitr; · ipureintro; exact write_whole h ho inb f X
  iexact Hx

end Cert.Moe

end
-- ==== Proof.Body.lean ====
/-
The kernel body, run at each of its four grid points.

Point 0 meets the partner, exchanges token rows, router columns and gates, and does the first expert's rows for both
devices. Points 1 and 2 do the next two experts. Point 3 does the last one, returns the partner's partial outputs and
adds those that come back.
-/
module

public import proofs.«01_k».proof.Proof.Steps
public import Idealize.ShloMosaic.Lib.MemrefSat

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body at grid coordinates `i`, on the buffers the pipeline calls it with; the expert weights' two are parameters. -/
abbrev bodyOn (i : grid0.Coords) (A : Memref sig .tc .vmem S1x1024x2048 .f32) (hA : A.IsWhole) (B : Memref sig .tc .vmem S1x2048x1024 .f32) (hB : B.IsWhole) :
    Prog (TpuEff nD τ sig (Elt F) Λ₀ .tc) PUnit :=
  cc0_body i xM (Memref.isWhole_whole _) rM (Memref.isWhole_whole _) A hA B hB oM (Memref.isWhole_whole _)
    xsM (Memref.isWhole_whole _) xpM (Memref.isWhole_whole _) rrM (Memref.isWhole_whole _) gsM (Memref.isWhole_whole _) grM (Memref.isWhole_whole _)
    psM (Memref.isWhole_whole _) prM (Memref.isWhole_whole _) acM (Memref.isWhole_whole _) woM (Memref.isWhole_whole _) wpM (Memref.isWhole_whole _) cc0_scratch10

/-- The ghost state of the exchange a device starts with. -/
def ghost (K : Dev nD × Fin 9 → ℕ) (c : Dev nD) : sProp 𝕄 :=
  iprop(records m K ∗ levAts L lv
    ∗ (atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0
      ∗ atPos ER (cell c 5) 0 ∅ 0 ∗ atPos ER (cell c 6) 0 ∅ 0 ∗ atPos ER (cell c 7) 0 ∅ 0 ∗ atPos ER (cell c 8) 0 ∅ 0)
    ∗ (dutyTok ER (cell (peer c) 0) 0 () ∗ dutyTok ER (cell (peer c) 2) 0 () ∗ dutyTok ER (cell (peer c) 4) 0 () ∗ dutyTok ER (cell (peer c) 6) 0 () ∗ dutyTok ER (cell (peer c) 8) 0 ())
    ∗ (dutyTok ER (cell c 1) 0 () ∗ dutyTok ER (cell c 3) 0 () ∗ dutyTok ER (cell c 5) 0 () ∗ dutyTok ER (cell c 7) 0 ())
    ∗ (cred (tallyAt (cell c 0) () (amt 0)) ∗ cred (tallyAt (cell c 2) () (amt 2)) ∗ cred (tallyAt (cell c 4) () (amt 4)) ∗ cred (tallyAt (cell c 6) () (amt 6)) ∗ cred (tallyAt (cell c 8) () (amt 8))))

/-- The ten scratch buffers at some contents. -/
def scratch (c : Dev nD) : sProp 𝕄 :=
  iprop(some' c cc0_scratch0 ∗ some' c cc0_scratch1 ∗ some' c cc0_scratch2 ∗ some' c cc0_scratch3 ∗ some' c cc0_scratch4 ∗ some' c cc0_scratch5
    ∗ some' c cc0_scratch6 ∗ some' c cc0_scratch7 ∗ some' c cc0_scratch8 ∗ some' c cc0_scratch9)

/-- The ghost state between the first point and the last: the last transfer's, and the counters of the used cells. -/
def ghost' (K : Dev nD × Fin 9 → ℕ) (c : Dev nD) : sProp 𝕄 :=
  iprop(records m K ∗ levAts L lv ∗ atPos ER (cell c 7) 0 ∅ 0 ∗ atPos ER (cell c 8) 0 ∅ 0
    ∗ dutyTok ER (cell (peer c) 8) 0 () ∗ dutyTok ER (cell c 7) 0 () ∗ cred (tallyAt (cell c 8) () (amt 8))
    ∗ semVal (cell c 0) 0 ∗ semVal (cell c 1) 0 ∗ semVal (cell c 2) 0 ∗ semVal (cell c 3) 0 ∗ semVal (cell c 4) 0 ∗ semVal (cell c 5) 0 ∗ semVal (cell c 6) 0)

/-- The buffers between the first point and the last, the partner's partial outputs so far being `acc`; the buffer the
    results come back in is the partner's to write. -/
def held (c : Dev nD) (acc : Vec F S512x1024 .f32) : sProp 𝕄 :=
  iprop(pts c cc0_scratch0 fullShare (xs m c) ∗ pts c cc0_scratch1 fullShare (xp m c) ∗ some' c cc0_scratch2 ∗ some' c cc0_scratch3 ∗ some' c cc0_scratch4
    ∗ some' c cc0_scratch5 ∗ some' (peer c) cc0_scratch6 ∗ pts c cc0_scratch7 fullShare acc ∗ pts c cc0_scratch8 fullShare (wo m c) ∗ pts c cc0_scratch9 fullShare (wq m c))

/-- The counters of all nine cells at zero. -/
def zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0 ∗ semVal (cell c 6) 0
    ∗ semVal (cell c 7) 0 ∗ semVal (cell c 8) 0)

theorem WP_ret (c : Dev nD) {α : Type} (x : α) (Q : α → sProp 𝕄) : Q x ⊢ WP c (.ret x) Q := by
  unfold WP
  rw [wp_ret]
  iintro H; imodintro; iexact H

/-- A buffer at a value is the buffer at an equal value. -/
theorem owns_cast {c : Dev nD} {sp : Space} {sh : Shape} {e : EltTy} {M : Memref sig .tc sp sh e} {q : PosShare TreeShare} {X Y : Vec F sh e} (h : X = Y) :
    (owns (c : Thread nD τ) M q X : sProp 𝕄) ⊢ owns (c : Thread nD τ) M q Y := Entails.of_eq (congrArg (owns (c : Thread nD τ) M q) h)

section Values
variable (c : Dev nD)
theorem xs_eq : k0_pay3 (xblk m c) = xs m c := rfl
theorem gs_eq : k0_pay5 (Scalar.remsi (Scalar.divsi (Dev.word c) 4#32) 2#32) (xblk m c) (rblk m c) (rblk m (peer c)) = gs m c := rfl
theorem wo_eq : k0_pay16 c (k0_pay4 (Scalar.remsi (Scalar.divsi (Dev.word c) 4#32) 2#32) (xblk m c) (rblk m c) (rblk m (peer c)))
    (k0_pay6 (Scalar.remsi (Scalar.divsi (Dev.word c) 4#32) 2#32) (xblk m c) (rblk m c) (rblk m (peer c)))
    (k0_pay7 (Scalar.remsi (Scalar.divsi (Dev.word c) 4#32) 2#32) (xblk m c) (rblk m c) (rblk m (peer c))) = wo m c := rfl
theorem wq_eq : k0_pay9 (Scalar.remsi (Scalar.divsi (Dev.word c) 4#32) 2#32) (gr m c) = wq m c := rfl
theorem col0_eq (w : Vec F S512x4 .f32) : (fun x => w ((Rect.unit (s := S512x4) ![0, 0] S512x1.size inb_S512x4_S512x1_0_0).toLoadRect.idx x)) = col0 w := rfl
theorem col3_eq (w : Vec F S512x4 .f32) : (fun x => w ((Rect.unit (s := S512x4) ![0, 3] S512x1.size inb_S512x4_S512x1_0_3).toLoadRect.idx x)) = col3 w := rfl
theorem xp_eq : xs m (peer c) = xp m c := rfl
theorem gr_eq : gs m (peer c) = gr m c := rfl
theorem pr_eq : ps m (peer c) = pr m c := rfl
theorem xs_peer : xs m c = xp m (peer c) := by rw [← xp_eq, peer_peer]
theorem gs_peer : gs m c = gr m (peer c) := by rw [← gr_eq, peer_peer]
theorem ps_peer : ps m c = pr m (peer c) := by rw [← pr_eq, peer_peer]
theorem rblk_peer : rblk m c = rblk m (peer (peer c)) := by rw [peer_peer]
end Values

attribute [local irreducible] xs xp gs gr wo wq ps pr

theorem halves_out (c : Dev nD) : owns (c : Thread nD τ) xsM fullShare (xs m c)
    ⊢ (iprop(owns (c : Thread nD τ) xsM fullShare.left (xs m c) ∗ owns (c : Thread nD τ) xsM fullShare.right (xs m c)) : sProp 𝕄) :=
  (owns_halves (c : Thread nD τ) xsM fullShare (xs m c)).1

theorem halves_in (c : Dev nD) : (iprop(owns (c : Thread nD τ) xsM fullShare.left (xs m c) ∗ owns (c : Thread nD τ) xsM fullShare.right (xs m c)) : sProp 𝕄)
    ⊢ owns (c : Thread nD τ) xsM fullShare (xs m c) :=
  (owns_halves (c : Thread nD τ) xsM fullShare (xs m c)).2

section Cases
variable (K : Dev nD × Fin 9 → ℕ) (c : Dev nD) (i : grid0.Coords)
  (A : Memref sig .tc .vmem S1x1024x2048 .f32) (hA : A.IsWhole) (B : Memref sig .tc .vmem S1x2048x1024 .f32) (hB : B.IsWhole)
  (a : Vec F S1x1024x2048 .f32) (b : Vec F S1x2048x1024 .f32)

set_option maxHeartbeats 1600000 in
/-- A middle point. -/
theorem sound_mid (h1 : ¬ k0_cond1 i = 1#1) (h2 : ¬ k0_cond2 i = 1#1) (h3 : k0_cond3 i = 1#1) (h4 : ¬ k0_cond4 i = 1#1)
    (acc out : Vec F S512x1024 .f32) (Kt : PUnit → sProp 𝕄) :
    iprop((held m c acc ∗ owns (c : Thread nD τ) A fullShare a ∗ owns (c : Thread nD τ) B fullShare b ∗ pts c cc0_stg4_0 fullShare out)
        ∗ ((held m c (k0_pay1 (k0_pay17 a) (k0_pay18 b) (k0_pay11 (BitVec.ofNat 32 (i 0).val) (wq m c)) acc (xp m c))
            ∗ owns (c : Thread nD τ) A fullShare a ∗ owns (c : Thread nD τ) B fullShare b
            ∗ pts c cc0_stg4_0 fullShare (k0_pay12 (BitVec.ofNat 32 (i 0).val) (k0_pay17 a) (k0_pay18 b) (wo m c) out (xs m c))) -∗ Kt ⟨⟩))
      ⊢ WP c (bodyOn i A hA B hB) Kt := by
  unfold bodyOn
  simp only [cc0_body_eq_skeleton, cc0_body_skel, k0_part8_eq_skeleton, k0_part8_skel, k0_part5_eq_skeleton, k0_part5_skel, dif_neg h1, dif_neg h2, dif_pos h3, dif_neg h4,
    semSignalWord, semWaitWord, Prog.lift, Prog.bind_op, Prog.bind_ret, Prog.pure_eq_ret, wp_deviceId]
  unfold held
  iintro ⟨⟨⟨H0, H1, H2, H3, H4, H5, H6, H7, H8, H9⟩, HA, HB, Ho⟩, Hk⟩
  iapply (wp_get hA hz3) $$ HA; iintro HA
  iapply (wp_get hB hz3) $$ HB; iintro HB
  iapply (wp_get (M := woM) (Memref.isWhole_whole _) hz2) $$ H8; iintro H8
  iapply (wp_get (M := wpM) (Memref.isWhole_whole _) hz2) $$ H9; iintro H9
  iapply (wp_get (M := oM) (Memref.isWhole_whole _) hz2) $$ Ho; iintro Ho
  iapply (wp_get (M := xsM) (Memref.isWhole_whole _) hz2) $$ H0; iintro H0
  iapply (wp_get (M := oM) (Memref.isWhole_whole _) hz2) $$ Ho; iintro Ho
  iapply (wp_set (M := oM) (Memref.isWhole_whole _) hz2) $$ Ho; iintro Ho
  iapply (wp_get (M := acM) (Memref.isWhole_whole _) hz2) $$ H7; iintro H7
  iapply (wp_get (M := xpM) (Memref.isWhole_whole _) hz2) $$ H1; iintro H1
  iapply (wp_get (M := acM) (Memref.isWhole_whole _) hz2) $$ H7; iintro H7
  iapply (wp_set (M := acM) (Memref.isWhole_whole _) hz2) $$ H7; iintro H7
  iapply (WP_ret c _ Kt)
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  isplitl [HA]; · iexact HA
  isplitl [HB] <;> iassumption

set_option maxHeartbeats 3200000 in
/-- The first point. -/
theorem sound_first (h1 : k0_cond1 i = 1#1) (h2 : k0_cond2 i = 1#1) (h3 : ¬ k0_cond3 i = 1#1) (h4 : ¬ k0_cond4 i = 1#1)
    (out : Vec F S512x1024 .f32) (Kt : PUnit → sProp 𝕄) :
    iprop((ghost m K c ∗ scratch c ∗ owesE c [0, 2, 4, 6, 8] ∗ pts c cc0_stg0_0 fullShare (xblk m c) ∗ pts c cc0_stg1_0 fullShare (rblk m c)
          ∗ owns (c : Thread nD τ) A fullShare a ∗ owns (c : Thread nD τ) B fullShare b ∗ pts c cc0_stg4_0 fullShare out)
        ∗ ((ghost' m K c ∗ held m c (k0_pay19 a b (xp m c) (col0 (wq m c))) ∗ owesE c [8] ∗ pts c cc0_stg0_0 fullShare (xblk m c) ∗ pts c cc0_stg1_0 fullShare (rblk m c)
            ∗ owns (c : Thread nD τ) A fullShare a ∗ owns (c : Thread nD τ) B fullShare b
            ∗ pts c cc0_stg4_0 fullShare (k0_pay8 (k0_pay17 a) (k0_pay18 b) (xs m c) (col0 (wo m c)))) -∗ Kt ⟨⟩))
      ⊢ WP c (bodyOn i A hA B hB) Kt := by
  unfold bodyOn
  simp only [cc0_body_eq_skeleton, cc0_body_skel, k0_part8_eq_skeleton, k0_part8_skel, k0_part1_eq_skeleton, k0_part1_skel, k0_part2_eq_skeleton, k0_part2_skel,
    k0_part3_eq_skeleton, k0_part3_skel, k0_part4_eq_skeleton, k0_part4_skel, dif_pos h1, dif_pos h2, dif_neg h3, dif_neg h4,
    semSignalWord, semWaitWord, Prog.lift, Prog.bind_op, Prog.bind_ret, Prog.pure_eq_ret, wp_deviceId]
  unfold ghost scratch
  iintro ⟨⟨⟨#Hr, #Hl, ⟨P0, P1, P2, P3, P4, P5, P6, P7, P8⟩, ⟨T0, T2, T4, T6, T8⟩, ⟨T1, T3, T5, T7⟩, ⟨C0, C2, C4, C6, C8⟩⟩,
    ⟨⟨%f0, H0⟩, H1, H2, ⟨%f3, H3⟩, H4, H5, H6, ⟨%f7, H7⟩, ⟨%f8, H8⟩, ⟨%f9, H9⟩⟩, HO, Hx, HR, HA, HB, Ho⟩, Hk⟩
  -- the partner gets the landing buffers
  iapply (wp_ring m K c _ (Fin.ext (dev1_eq c)) [2, 4, 6, 8]) $$ [HO T0 H1 H2 H4 H6]
  · isplitr; · iexact Hr
    isplitl [HO]; · iexact HO
    isplitl [T0]; · iexact T0
    simp only [pay, peer_peer]
    isplitl [H1]; · iexact H1
    isplitl [H2]; · iexact H2
    isplitl [H4] <;> iassumption
  iintro HO
  iapply (wp_take m K c 0 [2, 4, 6, 8] (by decide) (fun _ => rfl)) $$ [HO C0 P0]
  · isplitr; · iexact Hr
    isplitr; · iexact Hl
    isplitl [HO]; · iexact HO
    isplitl [C0] <;> iassumption
  iintro ⟨HO, Z0, Hp⟩
  simp only [pay]
  icases Hp with ⟨⟨%g1, G1⟩, ⟨%g2, G2⟩, ⟨%g4, G4⟩, G6⟩
  iapply (wp_get (M := xM) (Memref.isWhole_whole _) hz2) $$ Hx; iintro Hx
  iapply (wp_get (M := xsM) (Memref.isWhole_whole _) hz2) $$ H0; iintro H0
  iapply (wp_set (M := xsM) (Memref.isWhole_whole _) hz2) $$ H0; iintro H0
  ihave H0 := (owns_cast (xs_eq m c)) $$ H0
  -- the token rows go out at half a share
  ihave H0' := (halves_out m c) $$ H0
  icases H0' with ⟨H0l, H0⟩
  iapply (wp_put m K c _ (Fin.ext (dev2_eq c)) 1 2 [4, 6, 8] rfl rfl rfl rfl (src := xsM) (dst := xpM) (q := fullShare.left) (X := xs m c) (Y := g1)
    (BI.Entails.refl _) (owns_cast (xs_peer m c))) $$ [HO T1 T2 H0l G1]
  · isplitr; · iexact Hr
    isplitl [HO]; · iexact HO
    isplitl [T1]; · iexact T1
    isplitl [T2]; · iexact T2
    isplitl [H0l] <;> iassumption
  iintro ⟨HO, C1⟩
  iapply (wp_put m K c _ (Fin.ext (dev3_eq c)) 3 4 [6, 8] rfl rfl rfl rfl (src := rM) (dst := rrM) (q := fullShare) (X := rblk m c) (Y := g2)
    (BI.Entails.refl _) (owns_cast (rblk_peer m c))) $$ [HO T3 T4 HR G2]
  · isplitr; · iexact Hr
    isplitl [HO]; · iexact HO
    isplitl [T3]; · iexact T3
    isplitl [T4]; · iexact T4
    isplitl [HR] <;> iassumption
  iintro ⟨HO, C3⟩
  iapply (wp_take m K c 3 [6, 8] (by decide) (fun _ => rfl)) $$ [HO C3 P3]
  · isplitr; · iexact Hr
    isplitr; · iexact Hl
    isplitl [HO]; · iexact HO
    isplitl [C3] <;> iassumption
  iintro ⟨HO, Z3, HR⟩
  iapply (wp_take m K c 4 [6, 8] (by decide) (fun _ => rfl)) $$ [HO C4 P4]
  · isplitr; · iexact Hr
    isplitr; · iexact Hl
    isplitl [HO]; · iexact HO
    isplitl [C4] <;> iassumption
  iintro ⟨HO, Z4, H2⟩
  simp only [pay]
  iapply (wp_get (M := xM) (Memref.isWhole_whole _) hz2) $$ Hx; iintro Hx
  iapply (wp_get (M := rM) (Memref.isWhole_whole _) hz2) $$ HR; iintro HR
  iapply (wp_get (M := rrM) (Memref.isWhole_whole _) hz2) $$ H2; iintro H2
  iapply (wp_get (M := gsM) (Memref.isWhole_whole _) hz2) $$ H3; iintro H3
  iapply (wp_set (M := gsM) (Memref.isWhole_whole _) hz2) $$ H3; iintro H3
  ihave H3 := (owns_cast (gs_eq m c)) $$ H3
  iapply (wp_put m K c _ (Fin.ext (dev4_eq c)) 5 6 [8] rfl rfl rfl rfl (src := gsM) (dst := grM) (q := fullShare) (X := gs m c) (Y := g4)
    (BI.Entails.refl _) (owns_cast (gs_peer m c))) $$ [HO T5 T6 H3 G4]
  · isplitr; · iexact Hr
    isplitl [HO]; · iexact HO
    isplitl [T5]; · iexact T5
    isplitl [T6]; · iexact T6
    isplitl [H3] <;> iassumption
  iintro ⟨HO, C5⟩
  iapply (wp_get (M := woM) (Memref.isWhole_whole _) hz2) $$ H8; iintro H8
  iapply (wp_set (M := woM) (Memref.isWhole_whole _) hz2) $$ H8; iintro H8
  ihave H8 := (owns_cast (wo_eq m c)) $$ H8
  iapply (wp_get hA hz3) $$ HA; iintro HA
  iapply (wp_get hB hz3) $$ HB; iintro HB
  iapply (wp_get (M := xsM) (Memref.isWhole_whole _) hz2) $$ H0; iintro H0
  iapply (wp_getAt (M := woM) (Memref.isWhole_whole _)) $$ H8; iintro H8
  iapply (wp_get (M := oM) (Memref.isWhole_whole _) hz2) $$ Ho; iintro Ho
  iapply (wp_set (M := oM) (Memref.isWhole_whole _) hz2) $$ Ho; iintro Ho
  iapply (wp_take m K c 1 [8] (by decide) (fun _ => rfl)) $$ [HO C1 P1]
  · isplitr; · iexact Hr
    isplitr; · iexact Hl
    isplitl [HO]; · iexact HO
    isplitl [C1] <;> iassumption
  iintro ⟨HO, Z1, H0l⟩
  iapply (wp_take m K c 2 [8] (by decide) (fun _ => rfl)) $$ [HO C2 P2]
  · isplitr; · iexact Hr
    isplitr; · iexact Hl
    isplitl [HO]; · iexact HO
    isplitl [C2] <;> iassumption
  iintro ⟨HO, Z2, H1⟩
  iapply (wp_take m K c 5 [8] (by decide) (fun _ => rfl)) $$ [HO C5 P5]
  · isplitr; · iexact Hr
    isplitr; · iexact Hl
    isplitl [HO]; · iexact HO
    isplitl [C5] <;> iassumption
  iintro ⟨HO, Z5, H3⟩
  iapply (wp_take m K c 6 [8] (by decide) (fun _ => rfl)) $$ [HO C6 P6]
  · isplitr; · iexact Hr
    isplitr; · iexact Hl
    isplitl [HO]; · iexact HO
    isplitl [C6] <;> iassumption
  iintro ⟨HO, Z6, H4⟩
  simp only [pay]
  ihave H0 := (halves_in m c) $$ [H0l H0]
  · isplitl [H0l] <;> iassumption
  iapply (wp_get (M := grM) (Memref.isWhole_whole _) hz2) $$ H4; iintro H4
  iapply (wp_get (M := wpM) (Memref.isWhole_whole _) hz2) $$ H9; iintro H9
  iapply (wp_set (M := wpM) (Memref.isWhole_whole _) hz2) $$ H9; iintro H9
  ihave H9 := (owns_cast (wq_eq m c)) $$ H9
  iapply (wp_get (M := xpM) (Memref.isWhole_whole _) hz2) $$ H1; iintro H1
  iapply (wp_getAt (M := wpM) (Memref.isWhole_whole _)) $$ H9; iintro H9
  iapply (wp_get (M := acM) (Memref.isWhole_whole _) hz2) $$ H7; iintro H7
  iapply (wp_set (M := acM) (Memref.isWhole_whole _) hz2) $$ H7; iintro H7
  iapply (WP_ret c _ Kt)
  iapply Hk
  unfold ghost' held
  isplitl [P7 P8 T8 T7 C8 Z0 Z1 Z2 Z3 Z4 Z5 Z6]
  · isplitr; · iexact Hr
    isplitr; · iexact Hl
    isplitl [P7]; · iexact P7
    isplitl [P8]; · iexact P8
    isplitl [T8]; · iexact T8
    isplitl [T7]; · iexact T7
    isplitl [C8]; · iexact C8
    isplitl [Z0]; · iexact Z0
    isplitl [Z1]; · iexact Z1
    isplitl [Z2]; · iexact Z2
    isplitl [Z3]; · iexact Z3
    isplitl [Z4]; · iexact Z4
    isplitl [Z5] <;> iassumption
  isplitl [H0 H1 H2 H3 H4 H5 G6 H7 H8 H9]
  · isplitl [H0]; · iexact H0
    isplitl [H1]; · iexact H1
    isplitl [H2]; · iexists _; iexact H2
    isplitl [H3]; · iexists _; iexact H3
    isplitl [H4]; · iexists _; iexact H4
    isplitl [H5]; · iexact H5
    isplitl [G6]; · iexact G6
    isplitl [H7]; · iexact H7
    isplitl [H8] <;> iassumption
  isplitl [HO]; · iexact HO
  isplitl [Hx]; · iexact Hx
  isplitl [HR]; · iexact HR
  isplitl [HA]; · iexact HA
  isplitl [HB]; · iexact HB
  iapply (owns_cast (congrArg (k0_pay8 (k0_pay17 a) (k0_pay18 b) (xs m c)) (col0_eq (wo m c)))) $$ Ho

set_option maxHeartbeats 3200000 in
/-- The last point. -/
theorem sound_last (h1 : ¬ k0_cond1 i = 1#1) (h2 : ¬ k0_cond2 i = 1#1) (h3 : ¬ k0_cond3 i = 1#1) (h4 : k0_cond4 i = 1#1)
    (acc out : Vec F S512x1024 .f32) (hps : k0_pay13 (k0_pay17 a) (k0_pay18 b) acc (xp m c) (col3 (wq m c)) = ps m c) (Kt : PUnit → sProp 𝕄) :
    iprop((ghost' m K c ∗ held m c acc ∗ owesE c [8]
          ∗ owns (c : Thread nD τ) A fullShare a ∗ owns (c : Thread nD τ) B fullShare b ∗ pts c cc0_stg4_0 fullShare out)
        ∗ ((zeros c ∗ scratch c ∗ owesE c [] ∗ owns (c : Thread nD τ) A fullShare a ∗ owns (c : Thread nD τ) B fullShare b
            ∗ pts c cc0_stg4_0 fullShare (k0_pay2 (k0_pay14 (k0_pay17 a) (k0_pay18 b) (xs m c) (col3 (wo m c)) out) (k0_pay15 (pr m c)))) -∗ Kt ⟨⟩))
      ⊢ WP c (bodyOn i A hA B hB) Kt := by
  unfold bodyOn
  simp only [cc0_body_eq_skeleton, cc0_body_skel, k0_part8_eq_skeleton, k0_part8_skel, k0_part6_eq_skeleton, k0_part6_skel, k0_part7_eq_skeleton, k0_part7_skel,
    dif_neg h1, dif_neg h2, dif_neg h3, dif_pos h4,
    semSignalWord, semWaitWord, Prog.lift, Prog.bind_op, Prog.bind_ret, Prog.pure_eq_ret, wp_deviceId]
  unfold ghost' held
  iintro ⟨⟨⟨#Hr, #Hl, P7, P8, T8, T7, C8, Z0, Z1, Z2, Z3, Z4, Z5, Z6⟩, ⟨H0, H1, H2, H3, H4, ⟨%f5, H5⟩, ⟨%g6, G6⟩, H7, H8, H9⟩, HO, HA, HB, Ho⟩, Hk⟩
  iapply (wp_get hA hz3) $$ HA; iintro HA
  iapply (wp_get hB hz3) $$ HB; iintro HB
  iapply (wp_get (M := acM) (Memref.isWhole_whole _) hz2) $$ H7; iintro H7
  iapply (wp_get (M := xpM) (Memref.isWhole_whole _) hz2) $$ H1; iintro H1
  iapply (wp_getAt (M := wpM) (Memref.isWhole_whole _)) $$ H9; iintro H9
  iapply (wp_get (M := psM) (Memref.isWhole_whole _) hz2) $$ H5; iintro H5
  iapply (wp_set (M := psM) (Memref.isWhole_whole _) hz2) $$ H5; iintro H5
  ihave H5 := (owns_cast hps) $$ H5
  iapply (wp_put m K c _ (Fin.ext (dev5_eq c)) 7 8 [] rfl rfl rfl rfl (src := psM) (dst := prM) (q := fullShare) (X := ps m c) (Y := g6)
    (BI.Entails.refl _) (owns_cast (ps_peer m c))) $$ [HO T7 T8 H5 G6]
  · isplitr; · iexact Hr
    isplitl [HO]; · iexact HO
    isplitl [T7]; · iexact T7
    isplitl [T8]; · iexact T8
    isplitl [H5] <;> iassumption
  iintro ⟨HO, C7⟩
  iapply (wp_get (M := xsM) (Memref.isWhole_whole _) hz2) $$ H0; iintro H0
  iapply (wp_getAt (M := woM) (Memref.isWhole_whole _)) $$ H8; iintro H8
  iapply (wp_take m K c 7 [] (by decide) (fun _ => rfl)) $$ [HO C7 P7]
  · isplitr; · iexact Hr
    isplitr; · iexact Hl
    isplitl [HO]; · iexact HO
    isplitl [C7] <;> iassumption
  iintro ⟨HO, Z7, H5⟩
  iapply (wp_take m K c 8 [] (by decide) (fun _ => rfl)) $$ [HO C8 P8]
  · isplitr; · iexact Hr
    isplitr; · iexact Hl
    isplitl [HO]; · iexact HO
    isplitl [C8] <;> iassumption
  iintro ⟨HO, Z8, H6⟩
  simp only [pay]
  iapply (wp_get (M := oM) (Memref.isWhole_whole _) hz2) $$ Ho; iintro Ho
  iapply (wp_get (M := prM) (Memref.isWhole_whole _) hz2) $$ H6; iintro H6
  iapply (wp_get (M := oM) (Memref.isWhole_whole _) hz2) $$ Ho; iintro Ho
  iapply (wp_set (M := oM) (Memref.isWhole_whole _) hz2) $$ Ho; iintro Ho
  iapply (WP_ret c _ Kt)
  iapply Hk
  unfold zeros scratch
  isplitl [Z0 Z1 Z2 Z3 Z4 Z5 Z6 Z7 Z8]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7] <;> iassumption
  isplitl [H0 H1 H2 H3 H4 H5 H6 H7 H8 H9]
  · isplitl [H0]; · iexists _; iexact H0
    isplitl [H1]; · iexists _; iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iexists _; iexact H9
  isplitl [HO]; · iexact HO
  isplitl [HA]; · iexact HA
  isplitl [HB]; · iexact HB
  iapply (owns_cast (congrArg (fun w => k0_pay2 (k0_pay14 (k0_pay17 a) (k0_pay18 b) (xs m c) w out) (k0_pay15 (pr m c))) (col3_eq (wo m c)))) $$ Ho

end Cases

end Cert.Moe

end
-- ==== Proof.Obligation.lean ====
/-
The pipeline's obligation on the kernel body: what each window's buffer holds before and after every grid point, what the
device keeps between points, and the body's run at every point from the one to the other.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds between points `t - 1` and `t`. -/
def between (c : Dev nD) (t : ℕ) : sProp 𝕄 :=
  match t with
  | 0 => iprop((∃ K, ghost m K c) ∗ scratch c)
  | 1 => iprop((∃ K, ghost' m K c) ∗ held m c (acc0 m c))
  | 2 => iprop((∃ K, ghost' m K c) ∗ held m c (acc1 m c))
  | 3 => iprop((∃ K, ghost' m K c) ∗ held m c (acc2 m c))
  | _ => iprop(zeros c ∗ scratch c)

/-- What it owes there. -/
def owing (c : Dev nD) (t : ℕ) : CellTallies nD τ sig Unit :=
  match t with
  | 0 => owe c [0, 2, 4, 6, 8]
  | 1 => owe c [8]
  | 2 => owe c [8]
  | 3 => owe c [8]
  | _ => owe c []

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val
  Φ t := between m c t.val
  q _ := fullShare
  owed t := owing c t.val

section Before
variable (c : Dev nD) (t : Fin cfg0.N)

theorem before_0 (d) : (dats m ρ 0 c).before 0 t d = iblk m c 0 t :=
  ((dats m ρ 0 c).before_in_eq_fetched 0 rfl (fun _ => rfl) (fun _ _ _ => rfl) (fun t => rfl) t d).trans rfl
theorem before_1 (d) : (dats m ρ 0 c).before 1 t d = iblk m c 1 t :=
  ((dats m ρ 0 c).before_in_eq_fetched 1 rfl (fun _ => rfl) (fun _ _ _ => rfl) (fun t => rfl) t d).trans rfl
theorem before_2 (d) : (dats m ρ 0 c).before 2 t d = iblk m c 2 t :=
  ((dats m ρ 0 c).before_in_eq_fetched 2 rfl (fun _ => rfl) (fun _ _ _ => rfl) (fun t => rfl) t d).trans rfl
theorem before_3 (d) : (dats m ρ 0 c).before 3 t d = iblk m c 3 t :=
  ((dats m ρ 0 c).before_in_eq_fetched 3 rfl (fun _ => rfl) (fun _ _ _ => rfl) (fun t => rfl) t d).trans rfl

/-- No point leaves the output buffer alone. -/
theorem live : ∀ i, cfg0.idle 4 i = false := by decide

theorem before_4 (ht : t.val ≠ 0) (d) : (dats m ρ 0 c).before 4 t d = outAt m c (t.val - 1) :=
  ((dats m ρ 0 c).before_out_kept 4 rfl t ht (by
    rw [Bool.eq_false_iff]; intro h; have := (flush0_4 _).mp h; have h4 := t.isLt; have hN : cfg0.N = 4 := N_0; simp only [hN] at h4; simp only at this; omega)
    live (fun _ _ => rfl) d).trans rfl
end Before

/-- What the pipeline owes at a point is what the device owes its partner. -/
theorem owes_out (c : Dev nD) (t : Fin (cfg0.N + 1)) (ks : List (Fin 9)) (h : owing c t.val = owe c ks) :
    (dats m ρ 0 c).owesAt () t ⊢ (owesE c ks : sProp 𝕄) := by
  unfold Dat.owesAt Pipeline.owesWithin owesE
  rw [show (dats m ρ 0 c).owed t = owe c ks from h]
  iintro ⟨%W, -, H⟩
  iexists W; iexact H
theorem owes_in (c : Dev nD) (t : Fin (cfg0.N + 1)) (ks : List (Fin 9)) (h : owing c t.val = owe c ks) :
    (owesE c ks : sProp 𝕄) ⊢ (dats m ρ 0 c).owesAt () t := by
  unfold Dat.owesAt Pipeline.owesWithin owesE
  rw [show (dats m ρ 0 c).owed t = owe c ks from h]
  iintro ⟨%W, H⟩
  iexists W
  isplitr; · ipureintro; exact fun _ _ => Or.inl trivial
  iexact H

/-- The five windows' buffers before the body at point `t`, and after it. -/
def pre (c : Dev nD) (t : Fin cfg0.N) : sProp 𝕄 :=
  iprop(between m c t.val ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d)))
def post (c : Dev nD) (t : Fin cfg0.N) : sProp 𝕄 :=
  iprop(between m c (t.val + 1) ∗ (dats m ρ 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (outAt m c t.val))

theorem body_0 (c : Dev nD) : pre m ρ c t0_0 ⊢ WP c (bodyAt0 t0_0) fun _ => post m ρ c t0_0 := by
  unfold pre
  simp only [before_0, before_1, before_2, before_3]
  rw [show between m c (t0_0 : Fin cfg0.N).val = iprop((∃ K, ghost m K c) ∗ scratch c) from rfl]
  iintro ⟨⟨⟨%K, Hg⟩, Hs⟩, HO, ⟨%d0, H0⟩, ⟨%d1, H1⟩, ⟨%d2, H2⟩, ⟨%d3, H3⟩, ⟨%d4, H4⟩⟩
  ihave HO := (owes_out m ρ c (t0_0 : Fin cfg0.N).castSucc [0, 2, 4, 6, 8] rfl) $$ HO
  iapply (sound_first m K c (grid0.coords t0_0) (st0_2 t0_0) (hstage0_2 ((cfg0.slots t0_0 2).cast nbuf0_2)) (st0_3 t0_0) (hstage0_3 ((cfg0.slots t0_0 3).cast nbuf0_3))
    (iblk m c 2 t0_0) (iblk m c 3 t0_0) (by decide) (by decide) (by decide) (by decide) ((dats m ρ 0 c).before 4 t0_0 d4) fun _ => post m ρ c t0_0)
  isplitl
  · isplitl [Hg]; · iexact Hg
    isplitl [Hs]; · iexact Hs
    isplitl [HO]; · iexact HO
    isplitl [H0]; · iexact H0
    isplitl [H1]; · iexact H1
    isplitl [H2]; · iexact H2
    isplitl [H3]; · iexact H3
    iexact H4
  · iintro ⟨Hg, Hh, HO, H0, H1, H2, H3, H4⟩
    unfold post
    rw [show between m c ((t0_0 : Fin cfg0.N).val + 1) = iprop((∃ K, ghost' m K c) ∗ held m c (acc0 m c)) from rfl]
    ihave HO := (owes_in m ρ c (t0_0 : Fin cfg0.N).succ [8] rfl) $$ HO
    isplitl [Hg Hh]
    · isplitl [Hg]; · iexists K; iexact Hg
      iexact Hh
    isplitl [HO]; · iexact HO
    isplitl [H0]; · iexact H0
    isplitl [H1]; · iexact H1
    isplitl [H2]; · iexact H2
    isplitl [H3]; · iexact H3
    iexact H4

set_option maxHeartbeats 4000000 in
/-- A middle point, from its two running values to the next ones. -/
theorem body_mid (c : Dev nD) (t : Fin cfg0.N) (acc out acc' out' : Vec F S512x1024 .f32) (ht : t.val ≠ 0)
    (h1 : ¬ k0_cond1 (grid0.coords t) = 1#1) (h2 : ¬ k0_cond2 (grid0.coords t) = 1#1) (h3 : k0_cond3 (grid0.coords t) = 1#1) (h4 : ¬ k0_cond4 (grid0.coords t) = 1#1)
    (hbody : (bodyAt0 t : Prog (TpuEff nD τ sig (Elt F) Λ₀ .tc) PUnit)
      = bodyOn (grid0.coords t) (st0_2 t) (hstage0_2 ((cfg0.slots t 2).cast nbuf0_2)) (st0_3 t) (hstage0_3 ((cfg0.slots t 3).cast nbuf0_3)))
    (hst : st0_4 t = oM)
    (hb : between m c t.val = iprop((∃ K, ghost' m K c) ∗ held m c acc)) (hb' : between m c (t.val + 1) = iprop((∃ K, ghost' m K c) ∗ held m c acc'))
    (ho : owing c t.val = owe c [8]) (ho' : owing c (t.val + 1) = owe c [8])
    (hout : outAt m c (t.val - 1) = out) (hout' : outAt m c t.val = out')
    (hA : k0_pay1 (k0_pay17 (iblk m c 2 t)) (k0_pay18 (iblk m c 3 t)) (k0_pay11 (BitVec.ofNat 32 (grid0.coords t 0).val) (wq m c)) acc (xp m c) = acc')
    (hO : k0_pay12 (BitVec.ofNat 32 (grid0.coords t 0).val) (k0_pay17 (iblk m c 2 t)) (k0_pay18 (iblk m c 3 t)) (wo m c) out (xs m c) = out') :
    pre m ρ c t ⊢ WP c (bodyAt0 t) fun _ => post m ρ c t := by
  have key := sound_mid m c (grid0.coords t) (st0_2 t) (hstage0_2 ((cfg0.slots t 2).cast nbuf0_2)) (st0_3 t) (hstage0_3 ((cfg0.slots t 3).cast nbuf0_3))
    (iblk m c 2 t) (iblk m c 3 t) h1 h2 h3 h4 acc out fun _ => post m ρ c t
  rw [hA, hO] at key
  rw [hbody]
  unfold pre
  simp only [before_0, before_1, before_2, before_3, before_4 m ρ c t ht, hout]
  rw [hb, hst]
  iintro ⟨⟨Hg, Hh⟩, HO, ⟨%d0, H0⟩, ⟨%d1, H1⟩, ⟨%d2, H2⟩, ⟨%d3, H3⟩, ⟨%d4, H4⟩⟩
  ihave HO := (owes_out m ρ c t.castSucc [8] ho) $$ HO
  iapply key
  isplitl [Hh H2 H3 H4]
  · isplitl [Hh]; · iexact Hh
    isplitl [H2]; · iexact H2
    isplitl [H3]; · iexact H3
    iexact H4
  · iintro ⟨Hh, H2, H3, H4⟩
    unfold post
    rw [hb', hout', hst]
    ihave HO := (owes_in m ρ c t.succ [8] ho') $$ HO
    isplitl [Hg Hh]
    · isplitl [Hg]; · iexact Hg
      iexact Hh
    isplitl [HO]; · iexact HO
    isplitl [H0]; · iexact H0
    isplitl [H1]; · iexact H1
    isplitl [H2]; · iexact H2
    isplitl [H3]; · iexact H3
    iexact H4

theorem body_3 (c : Dev nD) : pre m ρ c t0_3 ⊢ WP c (bodyAt0 t0_3) fun _ => post m ρ c t0_3 := by
  unfold pre
  simp only [before_0, before_1, before_2, before_3, before_4 m ρ c t0_3 (by decide)]
  rw [show between m c (t0_3 : Fin cfg0.N).val = iprop((∃ K, ghost' m K c) ∗ held m c (acc2 m c)) from rfl]
  iintro ⟨⟨⟨%K, Hg⟩, Hh⟩, HO, ⟨%d0, H0⟩, ⟨%d1, H1⟩, ⟨%d2, H2⟩, ⟨%d3, H3⟩, ⟨%d4, H4⟩⟩
  ihave HO := (owes_out m ρ c (t0_3 : Fin cfg0.N).castSucc [8] rfl) $$ HO
  iapply (sound_last m K c (grid0.coords t0_3) (st0_2 t0_3) (hstage0_2 ((cfg0.slots t0_3 2).cast nbuf0_2)) (st0_3 t0_3) (hstage0_3 ((cfg0.slots t0_3 3).cast nbuf0_3))
    (iblk m c 2 t0_3) (iblk m c 3 t0_3) (by decide) (by decide) (by decide) (by decide) (acc2 m c) (out2 m c) rfl fun _ => post m ρ c t0_3)
  isplitl [Hg Hh HO H2 H3 H4]
  · isplitl [Hg]; · iexact Hg
    isplitl [Hh]; · iexact Hh
    isplitl [HO]; · iexact HO
    isplitl [H2]; · iexact H2
    isplitl [H3]; · iexact H3
    iexact H4
  · iintro ⟨Hz, Hs, HO, H2, H3, H4⟩
    unfold post
    rw [show between m c ((t0_3 : Fin cfg0.N).val + 1) = iprop(zeros c ∗ scratch c) from rfl]
    ihave HO := (owes_in m ρ c (t0_3 : Fin cfg0.N).succ [] rfl) $$ HO
    isplitl [Hz Hs]
    · isplitl [Hz]; · iexact Hz
      iexact Hs
    isplitl [HO]; · iexact HO
    isplitl [H0]; · iexact H0
    isplitl [H1]; · iexact H1
    isplitl [H2]; · iexact H2
    isplitl [H3]; · iexact H3
    iexact H4

theorem body_any (c : Dev nD) (t : Fin cfg0.N) : pre m ρ c t ⊢ WP c (bodyAt0 t) fun _ => post m ρ c t := by
  rcases fin_N0 t with rfl | rfl | rfl | rfl
  · exact body_0 m ρ c
  · exact body_mid m ρ c t0_1 (acc0 m c) (out0 m c) (acc1 m c) (out1 m c) (by decide) (by decide) (by decide) (by decide) (by decide) rfl rfl rfl rfl rfl rfl rfl rfl rfl rfl
  · exact body_mid m ρ c t0_2 (acc1 m c) (out1 m c) (acc2 m c) (out2 m c) (by decide) (by decide) (by decide) (by decide) (by decide) rfl rfl rfl rfl rfl rfl rfl rfl rfl rfl
  · exact body_3 m ρ c

/-- The pipeline's obligation. -/
theorem body_obligation (c : Dev nD) : BodyObligation (dats (F := F) m ρ 0 c) (defs₀ (F := F)) 𝒱₀ () Set.univ := fun t => by
  have h : ∀ P : sProp 𝕄, P = post m ρ c t → pre m ρ c t ⊢ WP c (bodyAt0 t) fun _ => P := fun P hP => hP ▸ body_any m ρ c t
  rw [bigSep_W0, bigSep_W0]
  refine h _ ?_
  dsimp only
  rw [show idle0 4 (grid0.coords t) = false from live _]
  rfl

end Cert.Moe

end
-- ==== Proof.Launch.lean ====
/-
The launch: the exchange's cells are set up with every device's semaphores at once, the duty tokens are dealt to the
devices that pay them, and the whole program runs to the computed result on every device, its arguments unchanged and
every semaphore counter at zero.
-/
module

public import proofs.«01_k».proof.Proof.Obligation
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and tokens -/

abbrev cellAt (ck : Dev nD × Fin 9) : GSem nD τ sig := cell ck.1 ck.2
def allCells : Finset (GSem nD τ sig) := Finset.univ.map ⟨cellAt, cell_injective⟩

/-- Each cell has one duty, in its first round. -/
abbrev tokAt (ck : Dev nD × Fin 9) : GSem nD τ sig × ℕ × Unit := (cellAt ck, 0, ())
theorem tokAt_injective : Function.Injective tokAt := fun _ _ h => cell_injective (congrArg Prod.fst h)
def allToks : Finset (GSem nD τ sig × ℕ × Unit) := Finset.univ.map ⟨tokAt, tokAt_injective⟩

def u₀ : UU :=
  (initOf (Pipeline.cells cfgs cellOf_inj) (Pipeline.launchToks cfgs cellOf_inj), initOf allCells allToks)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The duty tokens of device `c`'s own cells. -/
def toks (c : Dev nD) : sProp 𝕄 := bigSep Finset.univ fun k : Fin 9 => dutyTok ER (cell c k) 0 ()
def positions (c : Dev nD) : sProp 𝕄 := bigSep Finset.univ fun k : Fin 9 => atPos ER (cell c k) 0 ∅ 0

/-- What the launch deals device `c`. -/
def G (c : Dev nD) : sProp 𝕄 :=
  iprop((bigSep Finset.univ fun k : Fin 9 => roundState ER (sched m) (cell c k) 0)
    ∗ (bigSep Finset.univ fun k : Fin 9 => reached ER (cell c k) 0) ∗ positions c ∗ toks c)

/-- The tokens of the duties device `c` pays: its partner's barrier and receive cells', its own send cells'. -/
def payToks (c : Dev nD) : sProp 𝕄 :=
  iprop((dutyTok ER (cell (peer c) 0) 0 () ∗ dutyTok ER (cell (peer c) 2) 0 () ∗ dutyTok ER (cell (peer c) 4) 0 () ∗ dutyTok ER (cell (peer c) 6) 0 () ∗ dutyTok ER (cell (peer c) 8) 0 ())
    ∗ (dutyTok ER (cell c 1) 0 () ∗ dutyTok ER (cell c 3) 0 () ∗ dutyTok ER (cell c 5) 0 () ∗ dutyTok ER (cell c 7) 0 ()))

/-- What the set-up of all devices' cells together makes of it. -/
def G' (c : Dev nD) : sProp 𝕄 := iprop(∃ K, records m K ∗ positions c ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hr']; · iexact Hr'
  isplitl [Hat']; · iexact Hat'
  iexact Htok'

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0
      ∗ semVal (cell c 7) 0 ∗ semVal (cell c 8) 0) := by
  rw [Pipeline.ownSems0_eq_of_list c osem [0, 1, 2, 3, 4, 5, 6, 7] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (cell c k) 0 : sProp 𝕄) := by
  rw [ownSems0_eq, unscopedSems0_eq, bigSep_fin9]
  iintro ⟨H, H0⟩
  isplitl [H0]; · iexact H0
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell c k)))
          ∗ (bigSep Finset.univ fun k : Fin 9 => reached ER (cell c k) 0) ∗ positions c ∗ toks c) := by
  unfold G
  iintro ⟨Hos, Hus, Hst, Hrest⟩
  ihave Hv := (sems0_eq (F := F) c) $$ [Hos Hus]
  · isplitl [Hos] <;> iassumption
  imod (show iprop((bigSep Finset.univ fun k : Fin 9 => semVal (cell c k) 0) ∗ bigSep Finset.univ fun k : Fin 9 => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  iexact Hrest

theorem cell_toks (k : Fin 9) : (bigSep Finset.univ fun c : Dev nD => (dutyTok ER (cell c k) 0 () : sProp 𝕄)) = bigSep Finset.univ fun c : Dev nD => dutyTok ER (cell (peer c) k) 0 () :=
  bigSep_univ_equiv swap (fun c : Dev nD => (dutyTok ER (cell c k) 0 () : sProp 𝕄))

/-- The tokens dealt to the devices that pay. -/
theorem toks_across : (bigSep Finset.univ fun c : Dev nD => (toks c : sProp 𝕄)) ⊢ bigSep Finset.univ fun c : Dev nD => payToks c := by
  unfold toks payToks
  simp only [bigSep_fin9, bigSep_sep']
  rw [cell_toks 0, cell_toks 2, cell_toks 4, cell_toks 6, cell_toks 8]
  iintro ⟨H0, H1, H2, H3, H4, H5, H6, H7, H8⟩
  isplitl [H0 H2 H4 H6 H8]
  · isplitl [H0]; · iexact H0
    isplitl [H2]; · iexact H2
    isplitl [H4]; · iexact H4
    isplitl [H6] <;> iassumption
  · isplitl [H1]; · iexact H1
    isplitl [H3]; · iexact H3
    isplitl [H5] <;> iassumption

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) : iprop(records m K ∗ (positions c ∗ payToks c)) ⊢ G' m c := by
  unfold G'
  iintro ⟨HR, HP, HT⟩
  iexists K
  isplitl [HR]; · iexact HR
  isplitl [HP] <;> iassumption

theorem regroup :
    (bigSep Finset.univ fun c : Dev nD => iprop((bigSep Finset.univ fun k => iprop(∃ κ : ℕ, cellInv ER (sched m) κ (cell c k)))
          ∗ (bigSep Finset.univ fun k : Fin 9 => reached ER (cell c k) 0) ∗ positions c ∗ toks c) : sProp 𝕄)
      ⊢ bigSep Finset.univ (G' m) := by
  rw [bigSep_sep', bigSep_sep', bigSep_sep', ← bigSep_univ_prod (fun ck : Dev nD × Fin 9 => iprop(∃ κ : ℕ, cellInv ER (sched m) κ (cell ck.1 ck.2))),
    ← bigSep_univ_prod (fun ck : Dev nD × Fin 9 => (reached ER (cell ck.1 ck.2) 0 : sProp 𝕄))]
  iintro ⟨HI, #HR, Hat, Htok⟩
  ihave HK := (BI.bigSep_exists_pi Finset.univ (fun (ck : Dev nD × Fin 9) (κ : ℕ) => (cellInv ER (sched m) κ (cell ck.1 ck.2) : sProp 𝕄))) $$ HI
  icases HK with ⟨%K, #HI⟩
  ihave Htk := (toks_across (F := F)) $$ Htok
  iapply (bigSep_under (R := records m K) fun c _ => ghost_intro m K c)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A cell's launch credit is what its one payer owes it. -/
theorem launch_cell (c : Dev nD) (k : Fin 9) (hk : k ∈ ([0, 2, 4, 6, 8] : List (Fin 9))) :
    tallyOn (cell c k) (launchCredit (Pipeline.owing O₀) 0 (cell c k)) = (tallyAt (cell c k) () (amt k) : CellTallies nD τ sig Unit) := by
  unfold tallyAt; refine congrArg _ (Finsupp.ext fun u => ?_); cases u
  have h : ∀ d ∈ (Finset.univ : Finset (Dev nD)), O₀ d (cell c k) () = if d = peer c then amt k else 0 := fun d _ => by
    unfold O₀; rw [owe_at d c k _ (by decide), if_pos hk]
  rw [Pipeline.launchCredit_owing, Finsupp.single_eq_same, Finset.sum_congr rfl h, Finset.sum_ite_eq' Finset.univ (peer c) fun _ => amt k,
    if_pos (Finset.mem_univ _)]

theorem pick (Φ : Fin 9 → sProp 𝕄) : bigSep Finset.univ Φ ⊢ iprop(Φ 0 ∗ Φ 2 ∗ Φ 4 ∗ Φ 6 ∗ Φ 8) := by
  rw [bigSep_fin9]
  iintro ⟨H0, -, H2, -, H4, -, H6, -, H8⟩
  isplitl [H0]; · iexact H0
  isplitl [H2]; · iexact H2
  isplitl [H4]; · iexact H4
  isplitl [H6] <;> iassumption

theorem creds (c : Dev nD) :
    (Pipeline.launchCred O₀ c : sProp 𝕄) ⊢ iprop(cred (tallyAt (cell c 0) () (amt 0)) ∗ cred (tallyAt (cell c 2) () (amt 2)) ∗ cred (tallyAt (cell c 4) () (amt 4))
      ∗ cred (tallyAt (cell c 6) () (amt 6)) ∗ cred (tallyAt (cell c 8) () (amt 8))) := by
  rw [← launch_cell c 0 (by decide), ← launch_cell c 2 (by decide), ← launch_cell c 4 (by decide), ← launch_cell c 6 (by decide), ← launch_cell c 8 (by decide)]
  have hsub := bigSep_subset (M := 𝕄) (Finset.subset_univ ((Finset.univ : Finset (Fin 9)).map ⟨csem, csem_injective⟩))
    (Φ := fun sm : SemLoc sig => cred (tallyOn ((c : Thread nD τ), sm) (launchCredit (Pipeline.owing O₀) 0 ((c : Thread nD τ), sm))))
  rw [bigSep_map] at hsub
  unfold Pipeline.launchCred
  exact hsub.trans (pick fun k => cred (tallyOn (cell c k) (launchCredit (Pipeline.owing O₀) 0 (cell c k))))

/-! ## Entering and leaving the pipeline -/

theorem some_out (c : Dev nD) (b : Ref sig .tc) :
    (some' c b : sProp 𝕄) ⊢ iprop(∃ f : Buf (Elt F) (((c : Dev nD) : Thread nD τ).loc b), (((c : Thread nD τ).loc b) ↦{fullShare} f)) := by
  unfold some' pts owns
  simp only [Memref.view_whole, View.read_whole, View.set_whole]
  iintro ⟨%f, %g, %h, H⟩
  iexists g; iexact H
theorem some_in (c : Dev nD) (b : Ref sig .tc) :
    iprop(∃ f : Buf (Elt F) (((c : Dev nD) : Thread nD τ).loc b), (((c : Thread nD τ).loc b) ↦{fullShare} f)) ⊢ (some' c b : sProp 𝕄) := by
  unfold some' pts owns
  simp only [Memref.view_whole, View.read_whole, View.set_whole]
  iintro ⟨%f, H⟩
  iexists f; iexists f; isplitr; · ipureintro; rfl
  iexact H
theorem some_raw (c : Dev nD) (b : Ref sig .tc) :
    (some' c b : sProp 𝕄) = iprop(∃ f : Buf (Elt F) (((c : Dev nD) : Thread nD τ).loc b), (((c : Thread nD τ).loc b) ↦{fullShare} f)) :=
  BI.Entails.antisymm (some_out c b) (some_in c b)

theorem scratch_eq (c : Dev nD) : (Pipeline.scopedRest (Ix := Unit) (Name := ℕ) (U := UU) (Lvl := ℕ) (Val := Elt F) cfg0.spec c : sProp 𝕄) = scratch c := by
  refine (scopedRest0_eq c).trans ?_
  unfold scratch
  simp only [some_raw]

def start (c : Dev nD) : sProp 𝕄 := iprop(∃ K, ghost m K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' ghost positions payToks
  rw [bigSep_fin9]
  icases HG with ⟨%K, HR, HP, HT, HT'⟩
  isplitl
  · iexists K
    isplitl [HR]; · iexact HR
    isplitl [Hlev]; · iexact Hlev
    isplitl [HP]; · iexact HP
    isplitl [HT]; · iexact HT
    isplitl [HT']; · iexact HT'
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scratch_eq, ownSems0_eq, unscopedSems0_eq]
  unfold zeros
  iintro ⟨⟨H0, H⟩, Hr⟩
  isplitl [H0]; · iexact H0
  isplitl [H] <;> iassumption

theorem lv_stage (c : Dev nD) : ∀ (w : Fin cfg0.W) (s : Fin (cfg0.win w).nbuf), idx (.dma ((cfg0.win w).sem s)) = none := by decide

theorem waits (c : Dev nD) : (levAts L lv : sProp 𝕄) ⊢ Pipeline.cellsWaits cfgs (dats m ρ) () 0 c :=
  Pipeline.cellsWaits_intro cfgs (dats m ρ) () 0 c fun w s t => by
    have hw (ks : List (Fin 9)) (hks : ∀ k ∈ ks, 0 < lvk k) (h : owing c t.val = owe c ks) :
        (levAts L lv : sProp 𝕄) ⊢ MayWait (c : Thread nD τ) (.dma ((cfg0.win w).sem s)) () ((dats m ρ 0 c).owed t) := by
      rw [show (dats m ρ 0 c).owed t = owe c ks from h]
      exact mayWait c _ 0 (by unfold lv; dsimp only; rw [lv_stage c w s]) ks hks
    rcases t with ⟨_ | _ | _ | _ | t, ht⟩
    · exact hw [0, 2, 4, 6, 8] (by decide) rfl
    · exact hw [8] (by decide) rfl
    · exact hw [8] (by decide) rfl
    · exact hw [8] (by decide) rfl
    · exact hw [] (by decide) rfl

/-! ## The run -/

def finalA (c : Dev nD) (w : Fin cfg0.W) : Buf (Elt F) ((cfg0.win w).arr.view.loc (c : Thread nD τ)) := (dats m ρ 0 c).arrAt w cfg0.N

/-- Every window's array ends at its computed contents, on every device. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values, every execution ends, at the computed contents and with zero
    counters. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : (cfg0.win w).isOut = false) :
    finalA m ρ c w = m ((cfg0.win w).arr.view.loc (c : Thread nD τ)) := (dats (F := F) m ρ 0 c).arrAt_in w hw _

/-- The run, at @main's arrays: the four arguments as they were, the result's array at its computed contents, the counters
    at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl)⟩, h.2⟩) (run_main m ρ)

end Cert.Moe

end
-- ==== Proof.Frames.lean ====
/- The three frames: the kernel at both float instances from the one run of `Launch`, and the reference from its
   list of host operations. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Moe

open Idealize.ShloMosaic Idealize.SL.Sem

local instance frames_Kernel : Cert.Kernel.Facts := Cert.Kernel.Gen.facts
local instance frames_KernelIdeal : Cert.KernelIdeal.Facts := Cert.KernelIdeal.Gen.facts
local instance frames_ReferenceIdeal : Cert.ReferenceIdeal.Facts := Cert.ReferenceIdeal.Gen.facts

set_option smartUnfolding false in
/-- The kernel over the words: it ends, its arguments are what they were, and every counter is zero. The two printed
    programs have the same text, so this is the run of the ideal one read over the words. -/
theorem frame_words : Cert.quiescent_Kernel := fun m ρ _ =>
  (θ_run Cert.KernelIdeal.defs _ _).mono (fun _ h => h) (run_args (F := Bits) m ρ)

/-- The kernel over the extended reals. -/
theorem frame_ideal : Cert.quiescent_KernelIdeal := fun m ρ _ => run_args (F := Ideal) m ρ

/-- The reference over the extended reals: a list of host operations that writes no argument, on a device without counters. -/
theorem frame_plain : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Pay.lean ====
/- The kernel's block computations over the extended reals, at an index: the feed-forward layer of one expert on one
   block, its two halves of the hidden axis put together, and the selection of an expert's weight. -/
module

public import proofs.«01_k».proof.Proof.Protocol
public import Idealize.ShloMosaic.Lib.Pointwise

@[expose] public section

noncomputable section

namespace Cert.Moe

open Idealize.ShloMosaic Idealize.SL.Sem Cert.KernelIdeal Cert.KernelIdeal.Gen

/-- Blocks over the reals. -/
abbrev VI := Vec Ideal

/-- A sum over both halves of the hidden axis. -/
theorem halves (h : Fin 2048 → EReal) :
    (∑ x : Fin 1024, h ⟨x.val, by omega⟩) + ∑ x : Fin 1024, h ⟨1024 + x.val, by omega⟩ = ∑ f, h f :=
  (Fin.sum_univ_add (a := 1024) (b := 1024) h).symm

/-- One expert's feed-forward layer: one token row, one output column. -/
def ffn (X : Fin 1024 → EReal) (A : Fin 1024 → Fin 2048 → EReal) (B : Fin 2048 → EReal) : EReal :=
  ∑ f, max (∑ k, X k * A k f) 0 * B f

theorem halves_ffn (X : Fin 1024 → EReal) (A : Fin 1024 → Fin 2048 → EReal) (B : Fin 2048 → EReal) :
    (∑ x : Fin 1024, max (∑ k, X k * A k ⟨x.val, by omega⟩) 0 * B ⟨x.val, by omega⟩)
      + (∑ x : Fin 1024, max (∑ k, X k * A k ⟨1024 + x.val, by omega⟩) 0 * B ⟨1024 + x.val, by omega⟩) = ffn X A B :=
  halves fun f => max (∑ k, X k * A k f) 0 * B f

section
variable (A : FVec Ideal S1024x2048 .bf16) (B : FVec Ideal S2048x1024 .bf16) (X : FVec Ideal S512x1024 .bf16)
  (w : FVec Ideal S512x1 .f32) (p : FVec Ideal S512x1024 .f32) (r : Fin 512) (d : Fin 1024)

/-- The layer as the kernel's blocks hold it. -/
abbrev ffnB : EReal := ffn (fun k => X (ix2 r k)) (fun k f => A (ix2 k f)) (fun f => B (ix2 f d))

theorem pay8_at : k0_pay8 A B X w (ix2 r d) = ffnB A B X r d * w (ix2 r 0) := by
  pointwise [k0_pay8]
  exact congrArg (· * w (ix2 r 0)) (halves_ffn (fun k => X (ix2 r k)) (fun k f => A (ix2 k f)) (fun f => B (ix2 f d)))
theorem pay1_at : k0_pay1 A B w p X (ix2 r d) = p (ix2 r d) + ffnB A B X r d * w (ix2 r 0) := by
  pointwise [k0_pay1]
  exact congrArg (p (ix2 r d) + · * w (ix2 r 0)) (halves_ffn (fun k => X (ix2 r k)) (fun k f => A (ix2 k f)) (fun f => B (ix2 f d)))
theorem pay13_at : k0_pay13 A B p X w (ix2 r d) = p (ix2 r d) + ffnB A B X r d * w (ix2 r 0) := by
  pointwise [k0_pay13]
  exact congrArg (p (ix2 r d) + · * w (ix2 r 0)) (halves_ffn (fun k => X (ix2 r k)) (fun k f => A (ix2 k f)) (fun f => B (ix2 f d)))
theorem pay14_at : k0_pay14 A B X w p (ix2 r d) = p (ix2 r d) + ffnB A B X r d * w (ix2 r 0) := by
  pointwise [k0_pay14]
  exact congrArg (p (ix2 r d) + · * w (ix2 r 0)) (halves_ffn (fun k => X (ix2 r k)) (fun k f => A (ix2 k f)) (fun f => B (ix2 f d)))

theorem pay12_at (a : BitVec 32) (v : VI S512x4 .f32) :
    k0_pay12 a A B v p X (ix2 r d) = p (ix2 r d) + ffnB A B X r d * k0_pay11 (F := Ideal) a v (ix2 r 0) := by
  pointwise [k0_pay12, k0_pay11]
  exact congrArg (p (ix2 r d) + · * ∑ x : Fin 4, v (ix2 r x) * FloatOps.sitofp (F := Ideal) FTy.f32 (BitVec.setWidth 32 (k0_pay10 a (ix2 0 x)))) (halves_ffn (fun k => X (ix2 r k)) (fun k f => A (ix2 k f)) (fun f => B (ix2 f d)))
end

theorem pay17_at (A : VI S1x1024x2048 .f32) (k : Fin 1024) (f : Fin 2048) :
   k0_pay17 (F := Ideal)  A (ix2 k f) = A (ix3 0 k f) := by
  pointwise [k0_pay17]
theorem pay18_at (A : VI S1x2048x1024 .f32) (f : Fin 2048) (d : Fin 1024) :
   k0_pay18 (F := Ideal)  A (ix2 f d) = A (ix3 0 f d) := by
  pointwise [k0_pay18]
theorem pay19_at (A : VI S1x1024x2048 .f32) (B : VI S1x2048x1024 .f32) (X : FVec Ideal S512x1024 .bf16)
    (w : FVec Ideal S512x1 .f32) (r : Fin 512) (d : Fin 1024) :
    k0_pay19 (F := Ideal) A B X w (ix2 r d)
      = ffn (fun k => X (ix2 r k)) (fun k f => A (ix3 0 k f)) (fun f => B (ix3 0 f d)) * w (ix2 r 0) := by
  pointwise [k0_pay19]
  simp only [pay17_at, pay18_at]
  exact congrArg (· * w (ix2 r 0)) (halves_ffn _ (fun k f => A (ix3 0 k f)) (fun f => B (ix3 0 f d)))

theorem pay3_at (x : VI S512x1024 .f32) (r : Fin 512) (k : Fin 1024) :
   k0_pay3 (F := Ideal)  x (ix2 r k) = x (ix2 r k) := by
  pointwise [k0_pay3]
theorem col0_at (w : VI S512x4 .f32) (r : Fin 512) : col0 (F := Ideal) w (ix2 r 0) = w (ix2 r 0) := by
  pointwise [col0]
theorem col3_at (w : VI S512x4 .f32) (r : Fin 512) : col3 (F := Ideal) w (ix2 r 0) = w (ix2 r 3) := by
  pointwise [col3]
theorem pay5_at (s : BitVec 32) (x : VI S512x1024 .f32) (ra rb : VI S1024x4 .f32)  (r : Fin 512) (e : Fin 8) :
   k0_pay5 (F := Ideal)  s x ra rb (ix2 r e) = k0_pay4 (F := Ideal)  s x ra rb (ix2 r e) := by
  pointwise [k0_pay5]
/-- A comparison's bit, as the real number it converts to. -/
theorem hot (b : Bool) :
    FloatOps.sitofp (F := Ideal) FTy.f32 (BitVec.setWidth 32 (BitVec.ofBool b)) = if b then (1 : EReal) else 0 := by
  cases b <;> simp [FloatOps.sitofp]

theorem pay11_at (v : VI S512x4 .f32) (r : Fin 512) (e : Fin 4) :
    k0_pay11 (F := Ideal) (BitVec.ofNat 32 e.val) v (ix2 r 0) = v (ix2 r e) := by
  pointwise [k0_pay11, k0_pay10]
  have h (x : Fin 4) : IntOp.cmpi CmpIPredicate.eq (BitVec.ofNat 32 x.val) (BitVec.ofNat 32 e.val)
      = BitVec.ofBool (decide (x = e)) := by revert x e; decide
  simp only [h, hot]
  simp

theorem pay2_at (p q : FVec Ideal S512x1024 .f32) (r : Fin 512) (d : Fin 1024):
   k0_pay2 (F := Ideal) p q (ix2 r d) = p (ix2 r d) + q (ix2 r d) := by
  pointwise [k0_pay2]
theorem pay15_at (p : VI S512x1024 .bf16) (r : Fin 512) (d : Fin 1024):
   k0_pay15 (F := Ideal) p (ix2 r d) = p (ix2 r d) := by
  pointwise [k0_pay15]
end Cert.Moe
end
-- ==== Proof.Weights.lean ====
/- The kernel's gates and weights at an index. A row's two experts are found by equality with the greatest gate, and with
   the greatest of the others. -/
module

public import proofs.«01_k».proof.Proof.Pay

@[expose] public section

noncomputable section

namespace Cert.Moe

open Idealize.ShloMosaic Idealize.SL.Sem Cert.KernelIdeal Cert.KernelIdeal.Gen

/-- The greatest gate of a row. -/
def top1 (g : Fin 8 → EReal) : EReal := Finset.fold max (Ideal.ofBits FTy.f32 0xFF800000#32) g Finset.univ
/-- The row with its greatest gate struck out. -/
def struck (g : Fin 8 → EReal) (e : Fin 8) : EReal := if g e = top1 g then Ideal.ofBits FTy.f32 0xFF800000#32 else g e
/-- The greatest of what is left. -/
def top2 (g : Fin 8 → EReal) : EReal := top1 (struck g)
/-- The weight the kernel gives expert `e` in a row with gates `g`. -/
def wgt (g : Fin 8 → EReal) (e : Fin 8) : EReal :=
  (if g e = top1 g then 1 else 0) * Ideal.div 1 (1 + Ideal.exp (top2 g - top1 g))
    + (if struck g e = top2 g then 1 else 0) * Ideal.div (Ideal.exp (top2 g - top1 g)) (1 + Ideal.exp (top2 g - top1 g))

theorem onSide {α : Type} (s : BitVec 32) (a b : α) :
    Scalar.select (Scalar.cmpi .eq s 0#32) a b = if s = 0#32 then a else b := by
  by_cases h : s = 0#32
  · simp [Scalar.select, Scalar.cmpi, IntOp.cmpi, h]
  · simp [Scalar.select, Scalar.cmpi, IntOp.cmpi, h, beq_eq_false_iff_ne.mpr h]

theorem onBit {α : Type} (p : Prop) [Decidable p] (a b : α) :
    Scalar.select (BitVec.ofBool (decide p)) a b = if p then a else b := by
  by_cases h : p <;> simp [Scalar.select, h]

/-- A row of gates. -/
abbrev row (A : Vec Ideal S512x8 .f32) (r : Fin 512) : Fin 8 → EReal := fun e => A (ix2 r e)

theorem pay9_at (s : BitVec 32) (A : VI S512x8 .f32) (r : Fin 512) (d : Fin 4) :
    k0_pay9 (F := Ideal) s A (ix2 r d)
      = if s = 0#32 then wgt (row A r) ⟨d.val, by omega⟩ else wgt (row A r) ⟨4 + d.val, by omega⟩ := by
  pointwise [k0_pay9]
  simp only [onSide, hot, decide_eq_true_eq]
  rfl

theorem pay6_at (s : BitVec 32) (x : VI S512x1024 .f32) (ra rb : VI S1024x4 .f32)  (r : Fin 512) :
    k0_pay6 (F := Ideal) s x ra rb (ix2 r 0) = top1 (row (k0_pay4 (F := Ideal) s x ra rb) r) := by
  pointwise [k0_pay6]
  rfl

theorem pay7_at (s : BitVec 32) (x : VI S512x1024 .f32) (ra rb : VI S1024x4 .f32)  (r : Fin 512) (e : Fin 8) :
    k0_pay7 (F := Ideal) s x ra rb (ix2 r e) = BitVec.ofBool (decide (row (k0_pay4 (F := Ideal) s x ra rb) r e
      = top1 (row (k0_pay4 (F := Ideal) s x ra rb) r))) := by
  pointwise [k0_pay7]
  rw [pay6_at]

theorem pay16_at (c : Dev nD) (A : FVec Ideal S512x8 .f32) (b : FVec Ideal S512x1 .f32) (v : IVec S512x8 1) (r : Fin 512)
    (d : Fin 4) (hb : b (ix2 r 0) = top1 (row A r))
    (hv : ∀ e, v (ix2 r e) = BitVec.ofBool (decide (row A r e = top1 (row A r)))) :
    k0_pay16 c A b v (ix2 r d)
      = if side c = 0#32 then wgt (row A r) ⟨d.val, by omega⟩ else wgt (row A r) ⟨4 + d.val, by omega⟩ := by
  pointwise [k0_pay16]
  simp only [onSide, onBit, hot, hb, hv, decide_eq_true_eq]
  rfl

theorem pay4_at (s : BitVec 32) (x : VI S512x1024 .f32) (ra rb : VI S1024x4 .f32) (r : Fin 512) (e : Fin 8) :
    k0_pay4 (F := Ideal) s x ra rb (ix2 r e)
      = if s = 0#32 then
          (if h : e.val < 4 then ∑ k, x (ix2 r k) * ra (ix2 k ⟨e.val, h⟩) else ∑ k, x (ix2 r k) * rb (ix2 k ⟨e.val - 4, by omega⟩))
        else
          (if h : e.val < 4 then ∑ k, x (ix2 r k) * rb (ix2 k ⟨e.val, h⟩) else ∑ k, x (ix2 r k) * ra (ix2 k ⟨e.val - 4, by omega⟩)) := by
  pointwise [k0_pay4]
  rw [onSide]
end Cert.Moe
end
-- ==== Proof.Choice.lean ====
/- One row of gates: sorted by decreasing gate, the first two experts are the ones the kernel finds, with the weights the
   softmax over the two gates gives, whenever the three greatest gates differ and the greatest is finite. -/
module

public import proofs.«01_k».proof.Proof.Weights
public import Idealize.ShloMosaic.Lib.SortFacts

@[expose] public section

noncomputable section

namespace Cert.Moe

open Idealize.ShloMosaic

/-- The experts of a row with gates `g`, the greatest gate first. -/
def srt (g : Fin 8 → EReal) : Fin 8 → Fin 8 :=
  sortedFrom fun k k' => FloatOps.cmpfTotal (F := Ideal) (φ := .f32) .gt (g k) (g k') == 1#1

theorem before_iff (a b : EReal) : (FloatOps.cmpfTotal (F := Ideal) (φ := .f32) .gt a b == 1#1) = decide (b < a) := by
  by_cases h : b < a <;> simp [FloatOps.cmpfTotal, Ideal.cmpTotal, Ideal.cmp, CmpDirection.ordered, h]

theorem srt_anti (g : Fin 8 → EReal) {i j : Fin 8} (h : i < j) : g (srt g j) ≤ g (srt g i) := by
  have := sortedFrom_noInversion
    (fun k k' => FloatOps.cmpfTotal (F := Ideal) (φ := .f32) .gt (g k) (g k') == 1#1)
    (fun k k' => FloatOps.cmpfTotal (F := Ideal) (φ := .f32) .gt (g k) (g k') == 1#1)
    (fun a b => by simp only [before_iff, decide_eq_true_eq, decide_eq_false_iff_not, not_lt]; exact le_of_lt)
    (fun _ _ h => h)
    (fun a b c => by simp only [before_iff, decide_eq_false_iff_not, not_lt]; exact fun h h' => h.trans h') i j h
  exact not_lt.mp (of_decide_eq_false ((before_iff _ _).symm.trans this))

theorem neg_eq : Ideal.ofBits FTy.f32 0xFF800000#32 = (⊥ : EReal) := by
  simp [Ideal.ofBits, Ideal.ieee]

/-- No tie among the three greatest gates of the row, and the greatest finite. -/
structure Clear (g : Fin 8 → EReal) : Prop where
  first : g (srt g 1) < g (srt g 0)
  second : g (srt g 2) < g (srt g 1)
  finite : g (srt g 0) < ⊤

variable {g : Fin 8 → EReal}

theorem srt_surj (g : Fin 8 → EReal) (e : Fin 8) : ∃ k, srt g k = e := sortedFrom_surjective _ e
theorem srt_inj (g : Fin 8 → EReal) {a b : Fin 8} (h : srt g a = srt g b) : a = b := sortedFrom_injective _ h

theorem Clear.le_first (h : Clear g) {k : Fin 8} (hk : k ≠ 0) : g (srt g k) < g (srt g 0) := by
  rcases eq_or_ne k 1 with rfl | h1
  · exact h.first
  · exact lt_of_le_of_lt (srt_anti g (by omega)) h.first

theorem Clear.le_second (h : Clear g) {k : Fin 8} (h0 : k ≠ 0) (h1 : k ≠ 1) : g (srt g k) < g (srt g 1) := by
  rcases eq_or_ne k 2 with rfl | h2
  · exact h.second
  · exact lt_of_le_of_lt (srt_anti g (by omega)) h.second

theorem top1_eq (g : Fin 8 → EReal) (b : EReal) (e : Fin 8) (he : g e = b) (h : ∀ k, g k ≤ b) : top1 g = b := by
  unfold top1
  rw [neg_eq]
  refine le_antisymm ((Finset.fold_max_le _).mpr ⟨bot_le, fun k _ => h k⟩) ?_
  exact (Finset.le_fold_max _).mpr (.inr ⟨e, Finset.mem_univ _, he.ge⟩)

theorem Clear.top1 (h : Clear g) : top1 g = g (srt g 0) := by
  refine top1_eq g _ (srt g 0) rfl fun k => ?_
  obtain ⟨k, rfl⟩ := srt_surj g k
  rcases eq_or_ne k 0 with rfl | h0
  · exact le_rfl
  · exact (h.le_first h0).le

theorem Clear.is1 (h : Clear g) (k : Fin 8) : g (srt g k) = Moe.top1 g ↔ k = 0 := by
  rw [h.top1]
  refine ⟨fun e => ?_, fun e => e ▸ rfl⟩
  by_contra h0
  exact (h.le_first h0).ne e

theorem Clear.struck (h : Clear g) (k : Fin 8) : struck g (srt g k) = if k = 0 then ⊥ else g (srt g k) := by
  unfold Moe.struck
  simp only [h.is1, neg_eq]

theorem Clear.top2 (h : Clear g) : top2 g = g (srt g 1) := by
  refine top1_eq _ _ (srt g 1) (by rw [h.struck]; rfl) fun k => ?_
  obtain ⟨k, rfl⟩ := srt_surj g k
  rw [h.struck]
  rcases eq_or_ne k 0 with rfl | h0
  · exact bot_le
  · rw [if_neg h0]
    rcases eq_or_ne k 1 with rfl | h1
    · exact le_rfl
    · exact (h.le_second h0 h1).le

theorem Clear.is2 (h : Clear g) (k : Fin 8) : Moe.struck g (srt g k) = Moe.top2 g ↔ k = 1 := by
  rw [h.struck, h.top2]
  refine ⟨fun e => ?_, fun e => by subst e; rfl⟩
  by_contra h1
  by_cases h0 : k = 0
  · rw [if_pos h0] at e
    exact (lt_of_le_of_lt bot_le h.second).ne e
  · rw [if_neg h0] at e
    exact (h.le_second h0 h1).ne e

/-- The weight the reference gives expert `e`: the softmax over the two chosen gates, scattered to their experts. -/
def soft (g : Fin 8 → EReal) (e : Fin 8) : EReal :=
  ∑ x : Fin 2, if srt g ⟨x.val, by omega⟩ = e then
    Ideal.div (Ideal.exp (g (srt g ⟨x.val, by omega⟩)
        - Finset.fold max (Ideal.ofBits FTy.f32 0xFF800000#32) (fun x : Fin 2 => g (srt g ⟨x.val, by omega⟩)) Finset.univ))
      (∑ x : Fin 2, Ideal.exp (g (srt g ⟨x.val, by omega⟩)
        - Finset.fold max (Ideal.ofBits FTy.f32 0xFF800000#32) (fun x : Fin 2 => g (srt g ⟨x.val, by omega⟩)) Finset.univ))
    else 0

theorem Clear.wgt (h : Clear g) (e : Fin 8) : wgt g e = soft g e := by
  have hm : Finset.fold max (Ideal.ofBits FTy.f32 0xFF800000#32) (fun x : Fin 2 => g (srt g ⟨x.val, by omega⟩)) Finset.univ
      = g (srt g 0) := by
    rw [neg_eq]
    refine le_antisymm ((Finset.fold_max_le _).mpr ⟨bot_le, fun k _ => ?_⟩)
      ((Finset.le_fold_max _).mpr (.inr ⟨0, Finset.mem_univ _, le_rfl⟩))
    fin_cases k
    · exact le_rfl
    · exact h.first.le
  have hz : g (srt g 0) - g (srt g 0) = 0 :=
    EReal.sub_self h.finite.ne (lt_of_le_of_lt bot_le h.first).ne'
  have h1 : Ideal.exp 0 = 1 := by
    change ((Real.exp 0 : ℝ) : EReal) = 1
    rw [Real.exp_zero, EReal.coe_one]
  obtain ⟨k, rfl⟩ := srt_surj g e
  unfold Moe.wgt soft
  rw [hm]
  simp only [Fin.sum_univ_two, h.is1, h.is2]
  rw [h.top1, h.top2]
  change _ = (if srt g 0 = srt g k then Ideal.div (Ideal.exp (g (srt g 0) - g (srt g 0)))
    (Ideal.exp (g (srt g 0) - g (srt g 0)) + Ideal.exp (g (srt g 1) - g (srt g 0))) else 0)
    + (if srt g 1 = srt g k then Ideal.div (Ideal.exp (g (srt g 1) - g (srt g 0)))
    (Ideal.exp (g (srt g 0) - g (srt g 0)) + Ideal.exp (g (srt g 1) - g (srt g 0))) else 0)
  have e0 : srt g 0 = srt g k ↔ k = 0 := ⟨fun h => (srt_inj g h).symm, fun h => h ▸ rfl⟩
  have e1 : srt g 1 = srt g k ↔ k = 1 := ⟨fun h => (srt_inj g h).symm, fun h => h ▸ rfl⟩
  simp only [hz, h1, e0, e1, ite_mul, one_mul, zero_mul]

end Cert.Moe
end
-- ==== Proof.Result.lean ====
/- The kernel's result at an index, in a device's own arguments and its partner's. -/
module

public import proofs.«01_k».proof.Proof.Launch
public import proofs.«01_k».proof.Proof.Choice
public import Idealize.ShloMosaic.Lib.Pipeline.Value

@[expose] public section

noncomputable section

namespace Cert.Moe

open Idealize.ShloMosaic Idealize.SL.Sem Cert.KernelIdeal Cert.KernelIdeal.Gen
open Idealize.ShloMosaic.TcCoe

variable (m : (ℓ : Loc nD τ sig) → Buf (Elt Ideal) ℓ) (ρ : Dev nD → PrngReg) (c : Dev nD)

/-- The four arguments on a device. -/
abbrev argX : Vec Ideal S512x1024 .f32 := m ((c.tc : Thread nD τ).loc main_arg0)
abbrev argR : Vec Ideal S1024x4 .f32 := m ((c.tc : Thread nD τ).loc main_arg1)
abbrev argA : Vec Ideal S4x1024x2048 .f32 := m ((c.tc : Thread nD τ).loc main_arg2)
abbrev argB : Vec Ideal S4x2048x1024 .f32 := m ((c.tc : Thread nD τ).loc main_arg3)

theorem xblk_at (r : Fin 512) (k : Fin 1024) : xblk m c (ix2 r k) = argX m c (ix2 r k) :=
  congrArg (argX m c) (Shape.idx_ext₂
    (Pipeline.Window.rect_emb_val_of_index_zero win0_0 t0_0 0 rfl _) (Pipeline.Window.rect_emb_val_of_index_zero win0_0 t0_0 1 rfl _))

theorem rblk_at (k : Fin 1024) (e : Fin 4) : rblk m c (ix2 k e) = argR m c (ix2 k e) :=
  congrArg (argR m c) (Shape.idx_ext₂
    (Pipeline.Window.rect_emb_val_of_index_zero win0_1 t0_0 0 rfl _) (Pipeline.Window.rect_emb_val_of_index_zero win0_1 t0_0 1 rfl _))

theorem coord (t : Fin cfg0.N) : (grid0.coords t 0).val = t.val := by
  revert t; decide

theorem ablk_at (t : Fin 4) (k : Fin 1024) (f : Fin 2048) : ablk m c t (ix3 0 k f) = argA m c (ix3 t k f) := by
  refine congrArg (argA m c) (funext fun a => Fin.ext ?_)
  fin_cases a
  · refine (Pipeline.Window.rect_emb_val win0_2 t _ 0).trans ?_
    have : win0_2.index t 0 = t.val := by revert t; decide
    rw [this]; exact Nat.mul_one _
  · exact Pipeline.Window.rect_emb_val_of_index_zero win0_2 t 1 rfl _
  · exact Pipeline.Window.rect_emb_val_of_index_zero win0_2 t 2 rfl _

theorem bblk_at (t : Fin 4) (f : Fin 2048) (d : Fin 1024) : bblk m c t (ix3 0 f d) = argB m c (ix3 t f d) := by
  refine congrArg (argB m c) (funext fun a => Fin.ext ?_)
  fin_cases a
  · refine (Pipeline.Window.rect_emb_val win0_3 t _ 0).trans ?_
    have : win0_3.index t 0 = t.val := by revert t; decide
    rw [this]; exact Nat.mul_one _
  · exact Pipeline.Window.rect_emb_val_of_index_zero win0_3 t 1 rfl _
  · exact Pipeline.Window.rect_emb_val_of_index_zero win0_3 t 2 rfl _

/-- The output's block is its array: an element sits where it is. -/
theorem emb_out (i : S512x1024.Idx) : (win0_4.rect t0_3).emb i = i :=
  Shape.idx_ext₂ (Pipeline.Window.rect_emb_val_of_index_zero win0_4 t0_3 0 rfl _)
    (Pipeline.Window.rect_emb_val_of_index_zero win0_4 t0_3 1 rfl _)

/-- The result's array after the run. -/
theorem finalA_out : finalA m ρ c 4 = out3 m c := by
  refine (dats m ρ 0 c).arrAt_eq_of_cover 4 (out3 m c) (fun t h => ?_) fun i => ?_
  · have ht : t = t0_3 := by
      have := (flush0_4 t).mp h
      revert this t; decide
    subst ht
    have ha : (dats m ρ 0 c).after 4 t0_3 = out3 m c := rfl
    unfold Pipeline.Dat.flushed
    rw [ha]
    funext x
    exact congrArg (out3 m c) (emb_out x).symm
  · refine ⟨t0_3, (flush0_4 _).mpr rfl, ?_⟩
    have := ((cfg0.win 4).blk t0_3).view.emb_mem_set i
    exact (emb_out i) ▸ this

/-- The kernel's run over the extended reals: its result and its arguments. -/
theorem run_out : θ_run defs (onTc (τ := τ) (main (F := Ideal))) ⟨m, fun _ => 0, ρ⟩ (fun r => ∀ c : Dev nD,
      r.2.mem ((c.tc : Thread nD τ).loc main_v1) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c 4).trans (finalA_out m ρ c), (h.1 c 0).trans (finalA_in m ρ c 0 rfl),
    (h.1 c 1).trans (finalA_in m ρ c 1 rfl), (h.1 c 2).trans (finalA_in m ρ c 2 rfl),
    (h.1 c 3).trans (finalA_in m ρ c 3 rfl)⟩) (run_main m ρ)

/-! ## The result at an index -/

/-- Expert `e` of device `c` on a row of tokens. -/
def ffnAt (e : Fin 4) (X : Fin 1024 → EReal) (d : Fin 1024) : EReal :=
  ffn X (fun k f => argA m c (ix3 e k f)) (fun f => argB m c (ix3 e f d))

/-- The gates of device `c`'s row `r`, experts in order. -/
def gateAt (r : Fin 512) (e : Fin 8) : EReal :=
  if h : e.val < 4 then ∑ k, argX m c (ix2 r k) * (if c.val < 4 then argR m c else argR m (peer c)) (ix2 k ⟨e.val, h⟩)
  else ∑ k, argX m c (ix2 r k) * (if c.val < 4 then argR m (peer c) else argR m c) (ix2 k ⟨e.val - 4, by omega⟩)

/-- Which half of the experts is the device's own, as an offset. -/
def own (c : Dev nD) (e : Fin 4) : Fin 8 := if c.val < 4 then ⟨e.val, by omega⟩ else ⟨4 + e.val, by omega⟩

theorem side_iff (c : Dev nD) : side c = 0#32 ↔ c.val < 4 := by revert c; decide

theorem gates_row (r : Fin 512) : row (k0_pay4 (F := Ideal) (side c) (xblk m c) (rblk m c) (rblk m (peer c))) r = gateAt m c r := by
  funext e
  unfold row gateAt
  rw [pay4_at]
  simp only [side_iff, xblk_at, rblk_at]
  by_cases hc : c.val < 4 <;> simp only [hc, if_true, if_false]

theorem wo_at (r : Fin 512) (e : Fin 4) : wo m c (ix2 r e) = wgt (gateAt m c r) (own c e) := by
  unfold wo
  rw [pay16_at c _ _ _ r e (pay6_at _ _ _ _ r) (pay7_at _ _ _ _ r), gates_row]
  simp only [side_iff, own]
  by_cases hc : c.val < 4 <;> simp only [hc, if_true, if_false]

theorem wq_at (r : Fin 512) (e : Fin 4) : wq m c (ix2 r e) = wgt (gateAt m (peer c) r) (own c e) := by
  have hr : row (gr m c) r = gateAt m (peer c) r := by
    rw [← gates_row]
    funext e
    exact pay5_at _ _ _ _ r e
  unfold wq
  rw [pay9_at, hr]
  simp only [side_iff, own]
  by_cases hc : c.val < 4 <;> simp only [hc, if_true, if_false]

theorem xs_at (r : Fin 512) (k : Fin 1024) : xs m c (ix2 r k) = argX m c (ix2 r k) := by
  unfold xs
  rw [pay3_at, xblk_at]

theorem blk_ffn (t : Fin 4) (X : FVec Ideal S512x1024 .bf16) (r : Fin 512) (d : Fin 1024) :
    ffnB (k0_pay17 (F := Ideal) (ablk m c t)) (k0_pay18 (F := Ideal) (bblk m c t)) X r d
      = ffnAt m c t (fun k => X (ix2 r k)) d := by
  unfold ffnB ffnAt
  simp only [pay17_at, pay18_at, ablk_at, bblk_at]

theorem blk_ffn' (t : Fin cfg0.N) (e : Fin 4) (h : t.val = e.val) (X : FVec Ideal S512x1024 .bf16) (r : Fin 512) (d : Fin 1024) :
    ffnB (k0_pay17 (F := Ideal) (ablk m c t)) (k0_pay18 (F := Ideal) (bblk m c t)) X r d
      = ffnAt m c e (fun k => X (ix2 r k)) d := by
  have : t = (e : Fin cfg0.N) := Fin.ext h
  subst this
  exact blk_ffn m c t X r d

theorem pt_eq (t : Fin cfg0.N) (e : Fin 4) (h : t.val = e.val) : pt t = BitVec.ofNat 32 e.val := by
  unfold pt; rw [coord, h]

theorem first_A (k : Fin 1024) (f : Fin 2048) : ablk m c t0_0 (ix3 0 k f) = argA m c (ix3 0 k f) := ablk_at m c 0 k f
theorem first_B (f : Fin 2048) (d : Fin 1024) : bblk m c t0_0 (ix3 0 f d) = argB m c (ix3 0 f d) := bblk_at m c 0 f d

theorem ps_at (r : Fin 512) (d : Fin 1024) : ps m c (ix2 r d)
    = ∑ e : Fin 4, ffnAt m c e (fun k => argX m (peer c) (ix2 r k)) d * wgt (gateAt m (peer c) r) (own c e) := by
  have hx : (fun k => xp m c (ix2 r k)) = fun k => argX m (peer c) (ix2 r k) := funext fun k => xs_at m (peer c) r k
  unfold ps
  rw [pay13_at, blk_ffn' m c t0_3 3 rfl, col3_at]
  unfold acc2 accN
  rw [pay1_at, blk_ffn' m c t0_2 2 rfl, pt_eq t0_2 2 rfl, pay11_at _ _ 2]
  unfold acc1 accN
  rw [pay1_at, blk_ffn' m c t0_1 1 rfl, pt_eq t0_1 1 rfl, pay11_at _ _ 1]
  unfold acc0
  rw [pay19_at, col0_at]
  simp only [first_A, first_B, wq_at, hx]
  rw [Fin.sum_univ_four]
  rfl

theorem out_at (r : Fin 512) (d : Fin 1024) : out3 m c (ix2 r d)
    = (∑ e : Fin 4, ffnAt m c e (fun k => argX m c (ix2 r k)) d * wgt (gateAt m c r) (own c e))
      + ∑ e : Fin 4, ffnAt m (peer c) e (fun k => argX m c (ix2 r k)) d * wgt (gateAt m c r) (own (peer c) e) := by
  have hx : (fun k => xs m c (ix2 r k)) = fun k => argX m c (ix2 r k) := funext fun k => xs_at m c r k
  unfold out3
  rw [pay2_at, pay15_at, pay14_at, blk_ffn' m c t0_3 3 rfl, col3_at]
  unfold out2 outN
  rw [pay12_at, blk_ffn' m c t0_2 2 rfl, pt_eq t0_2 2 rfl, pay11_at _ _ 2]
  unfold out1 outN
  rw [pay12_at, blk_ffn' m c t0_1 1 rfl, pt_eq t0_1 1 rfl, pay11_at _ _ 1]
  unfold out0
  rw [pay8_at, blk_ffn' m c t0_0 0 rfl, col0_at]
  unfold pr
  rw [ps_at]
  simp only [wo_at, hx, peer_peer]
  rw [Fin.sum_univ_four, Fin.sum_univ_four]
end Cert.Moe
end
-- ==== Proof.Plain.lean ====
/- The reference's result at an index, and what the mask says of a row of gates. -/
module

public import proofs.«01_k».proof.Proof.Gen.ReferenceIdeal.Run
public import proofs.«01_k».proof.Proof.Choice
public import proofs.«01_k».proof.On_clear_choice

@[expose] public section

noncomputable section

namespace Cert.Moe

open Idealize.ShloMosaic Idealize.SL.Sem Cert.ReferenceIdeal Cert.ReferenceIdeal.Gen
local instance plain_ReferenceIdeal : Cert.ReferenceIdeal.Facts := Cert.ReferenceIdeal.Gen.facts
open Cert.ReferenceIdeal.Facts

/-- The reference's weights, from the chosen gates and their numbers. -/
def wts (V : FVec Ideal S1024x2 .f32) (I : IVec S1024x2 32) : FVec Ideal S8x1024 .f32 :=
 (transpose S8x1024 [1, 0] (Host.reduceAdd (select (cmpi .eq (broadcastInDim S1024x2x8 ![0, 1, 2] bcast_S1024x2x1_S1024x2x8_0_1_2 (broadcastInDim S1024x2x1 ![0, 1] bcast_S1024x2_S1024x2x1_0_1 (I))) (broadcastInDim S1024x2x8 ![0, 1, 2] bcast_S1x1x8_S1024x2x8_0_1_2 (broadcastInDim S1x1x8 ![2] bcast_S8_S1x1x8_2 (iotaInDim S8 32 0)))) (broadcastInDim S1024x2x8 ![0, 1, 2] bcast_S1024x2x1_S1024x2x8_0_1_2 (broadcastInDim S1024x2x1 ![0, 1] bcast_S1024x2_S1024x2x1_0_1 (Host.divf (Host.exp (subf (V) (broadcastInDim S1024x2 ![0, 1] bcast_S1024x1_S1024x2_0_1 (broadcastInDim S1024x1 ![0] bcast_S1024_S1024x1_0 (Host.reduce FloatOps.maximumf (V) (constant S_ .f32 0xFF800000#32) reducesTo_S1024x2_S1024_d1 h_S_))))) (broadcastInDim S1024x2 ![0, 1] bcast_S1024x1_S1024x2_0_1 (broadcastInDim S1024x1 ![0] bcast_S1024_S1024x1_0 (Host.reduceAdd (Host.exp (subf (V) (broadcastInDim S1024x2 ![0, 1] bcast_S1024x1_S1024x2_0_1 (broadcastInDim S1024x1 ![0] bcast_S1024_S1024x1_0 (Host.reduce FloatOps.maximumf (V) (constant S_ .f32 0xFF800000#32) reducesTo_S1024x2_S1024_d1 h_S_))))) (constant S_ .f32 0x00000000#32) reducesTo_S1024x2_S1024_d1 h_S_)))))) (broadcastInDim S1024x2x8 ![] bcast_S_S1024x2x8 (id (constant S_ .f32 0x00000000#32)))) (constant S_ .f32 0x00000000#32) reducesTo_S1024x2x8_S1024x8_d1 h_S_) transposes_S1024x8_S8x1024_1_0)

/-- The reference's result, from the weights. -/
def refOut (X : FVec Ideal S1024x1024 .f32) (A : FVec Ideal S8x1024x2048 .f32) (B : FVec Ideal S8x2048x1024 .f32) (W : FVec Ideal S8x1024 .f32) : FVec Ideal S1024x1024 .f32 :=
  Host.reduceAdd (mulf (Host.dotGeneral dot_S8x1024x2048_S8x2048x1024_S8x1024x1024_2_1_1_2_0_0 none (maximumf (transpose S8x1024x2048 [0, 2, 1] (Host.dotGeneral dot_S8x1024x2048_S1024x1024_S8x2048x1024_1_1_02_0_n_n none A X) transposes_S8x2048x1024_S8x1024x2048_0_2_1) (broadcastInDim S8x1024x2048 ![] bcast_S_S8x1024x2048 (constant S_ .f32 0x00000000#32))) B) (broadcastInDim S8x1024x1024 ![0, 1, 2] bcast_S8x1024x1_S8x1024x1024_0_1_2 (broadcastInDim S8x1024x1 ![0, 1] bcast_S8x1024_S8x1024x1_0_1 W))) (constant S_ .f32 0x00000000#32) reducesTo_S8x1024x1024_S1024x1024_d0 h_S_

/-- The reference's gates. -/
def gates  (X : FVec Ideal S1024x1024 .f32) (R : FVec Ideal S1024x8 .f32)  : FVec Ideal S1024x8 .f32 :=
  Host.dotGeneral dot_S1024x1024_S1024x8_S1024x8_1_0_0_1_n_n none X R

/-- One row of gates, from the whole arrays. -/
def gateRow (X : FVec Ideal S1024x1024 .f32) (R : FVec Ideal S1024x8 .f32) (r : Fin 1024) (e : Fin 8) : EReal :=
  ∑ k, X (ix2 r k) * R (ix2 k e)

theorem gates_at (X : FVec Ideal S1024x1024 .f32) (R : FVec Ideal S1024x8 .f32) (r : Fin 1024) (e : Fin 8) :
    gates X R (ix2 r e) = gateRow X R r e := by
  pointwise [gates, dot_S1024x1024_S1024x8_S1024x8_1_0_0_1_n_n]
  rfl

theorem along_ix2 {n m : Nat} (r : Fin n) (e k : Fin m) : (ix2 r e : (⟨2, ![n, m]⟩ : Shape).Idx).along 1 k = ix2 r k := by
  funext i
  fin_cases i <;> rfl

/-- The greatest gates of a row, by how many are kept. -/
theorem topv {k : Nat} (hk : k ≤ 8) (G : FVec Ideal S1024x8 .f32) (h : S1024x8.Slices (fun _ => 0) ⟨2, ![1024, k]⟩)
    (r : Fin 1024) (e : Fin k) :
    (Host.topK ⟨2, ![1024, k]⟩ 1 (FloatOps.cmpfTotal .gt) G h).1 (ix2 r e)
      = G (ix2 r (srt (fun e => G (ix2 r e)) ⟨e.val, by omega⟩)) := by
  pointwise [Host.topK, Host.sort2]
  simp only [along_ix2]
  rfl

theorem topi {k : Nat} (hk : k ≤ 8) (G : FVec Ideal S1024x8 .f32) (h : S1024x8.Slices (fun _ => 0) ⟨2, ![1024, k]⟩)
    (r : Fin 1024) (e : Fin k) :
    (Host.topK ⟨2, ![1024, k]⟩ 1 (FloatOps.cmpfTotal .gt) G h).2 (ix2 r e)
      = BitVec.ofNat 32 (srt (fun e => G (ix2 r e)) ⟨e.val, by omega⟩).val := by
  pointwise [Host.topK, Host.sort2]
  simp only [along_ix2]
  rfl

theorem wts_at (G : FVec Ideal S1024x8 .f32) (r : Fin 1024) (e : Fin 8) :
    wts (Host.topK S1024x2 1 (FloatOps.cmpfTotal .gt) G sliceFits_S1024x8_S1024x2).1
      (Host.topK S1024x2 1 (FloatOps.cmpfTotal .gt) G sliceFits_S1024x8_S1024x2).2 (ix2 e r)
      = soft (fun e => G (ix2 r e)) e := by
  pointwise [wts]
  simp only [topv (k := 2) (by decide), topi (k := 2) (by decide)]
  have h (a b : Fin 8) : IntOp.cmpi CmpIPredicate.eq (BitVec.ofNat 32 a.val) (BitVec.ofNat 32 b.val)
      = BitVec.ofBool (decide (a = b)) := by revert a b; decide
  simp only [h, onBit]
  have z : (id (constant (F := Ideal) S_ FTy.f32 0#32) ix0 : EReal) = 0 := by
    pointwise [id]
  rw [z]
  rfl

theorem refOut_at (X : FVec Ideal S1024x1024 .f32) (A : FVec Ideal S8x1024x2048 .f32) (B : FVec Ideal S8x2048x1024 .f32)
    (W : FVec Ideal S8x1024 .f32) (r : Fin 1024) (d : Fin 1024) :
    refOut X A B W (ix2 r d)
      = ∑ e, ffn (fun k => X (ix2 r k)) (fun k f => A (ix3 e k f)) (fun f => B (ix3 e f d)) * W (ix2 e r) := by
  pointwise [refOut, dot_S8x1024x2048_S8x2048x1024_S8x1024x1024_2_1_1_2_0_0, dot_S8x1024x2048_S1024x1024_S8x2048x1024_1_1_02_0_n_n]
  simp only [ffn, mul_comm]

/-- The reference's result, one row and one column. -/
def refAt (X : FVec Ideal S1024x1024 .f32) (R : FVec Ideal S1024x8 .f32) (A : FVec Ideal S8x1024x2048 .f32)
    (B : FVec Ideal S8x2048x1024 .f32) (r : Fin 1024) (d : Fin 1024) : EReal :=
  ∑ e, ffn (fun k => X (ix2 r k)) (fun k f => A (ix3 e k f)) (fun f => B (ix3 e f d)) * soft (gateRow X R r) e

/-- The reference's run: its result at every index, its arguments unchanged. -/
theorem run_plain (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ t d, (r.2.mem ((c.tc : Thread nD τ).loc main_v28) : FVec Ideal S1024x1024 .f32) (ix2 t d)
        = refAt (m ((c.tc : Thread nD τ).loc main_arg0)) (m ((c.tc : Thread nD τ).loc main_arg1))
            (m ((c.tc : Thread nD τ).loc main_arg2)) (m ((c.tc : Thread nD τ).loc main_arg3)) t d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun t d => ?_, (h c).2⟩) (Cert.ReferenceIdeal.Value.run (F := Ideal) m ρ)
  refine (congrFun (h c).1 (ix2 t d)).trans ?_
  refine (refOut_at _ _ _ (wts (Host.topK S1024x2 1 (FloatOps.cmpfTotal .gt) (gates _ _) sliceFits_S1024x8_S1024x2).1
      (Host.topK S1024x2 1 (FloatOps.cmpfTotal .gt) (gates _ _) sliceFits_S1024x8_S1024x2).2) t d).trans ?_
  simp only [wts_at, gates_at]
  rfl

/-- The side conditions of the mask's operations. -/
theorem facts_mask : Cert.On_clear_choice.Facts where
  sliceFits_S1024x8_S1024x3 := by decide
  slices_S1024x3_S1024x1_0_0 := by decide
  shapeCasts_S1024x1_S1024 := by decide
  slices_S1024x3_S1024x1_0_1 := by decide
  slices_S1024x3_S1024x1_0_2 := by decide
  bcast_S_S1024 := by decide
  bcast_S1024_S1024x1_0 := by decide
  bcast_S1024x1_S1024x1024_0_1 := by decide
  dot_S1024x1024_S1024x8_S1024x8_1_0_0_1_n_n_wf := by decide

local instance plain_On_clear_choice : Cert.On_clear_choice.Facts := facts_mask

theorem inf_eq : Ideal.ofBits FTy.f32 0x7F800000#32 = (⊤ : EReal) := by
  simp [Ideal.ofBits, Ideal.ieee]

theorem both (p q : Prop) [Decidable p] [Decidable q] :
    IntOp.andi (BitVec.ofBool (decide p)) (BitVec.ofBool (decide q)) = BitVec.ofBool (decide (p ∧ q)) := by
  by_cases p <;> by_cases q <;> simp [IntOp.andi, *]

/-- Where the mask is set, the row's choice is clear. -/
theorem clear_of_mask (X : FVec Ideal S1024x1024 .f32) (R : FVec Ideal S1024x8 .f32) (A : FVec Ideal S8x1024x2048 .f32)
    (B : FVec Ideal S8x2048x1024 .f32) (r : Fin 1024) (d : Fin 1024)
    (h : Cert.On_clear_choice.fn (F := Ideal) X R A B (ix2 r d) = 1#1) : Clear (gateRow X R r) := by
  pointwise [Cert.On_clear_choice.fn] at h
  have hG (e : Fin 8) : Ideal.matmul Cert.On_clear_choice.dot_S1024x1024_S1024x8_S1024x8_1_0_0_1_n_n X R (fun _ => 0) (ix2 r e)
      = gateRow X R r e := by
    pointwise [Cert.On_clear_choice.dot_S1024x1024_S1024x8_S1024x8_1_0_0_1_n_n]
    rfl
  rw [topv (k := 3) (by decide), topv (k := 3) (by decide), topv (k := 3) (by decide)] at h
  simp only [hG, both, inf_eq] at h
  by_contra hc
  rw [decide_eq_false] at h
  · exact absurd h (by decide)
  · rintro ⟨⟨h1, h2⟩, h3⟩
    exact hc ⟨h1, h2, h3⟩
end Cert.Moe
end
-- ==== Proof.Values.lean ====
/- The devices' blocks of the whole arrays, and the value claim. -/
module

public import proofs.«01_k».proof.Proof.Result
public import proofs.«01_k».proof.Proof.Plain
public import proofs.«01_k».proof.Defs
public import Idealize.ShloMosaic.Lib.Layout

@[expose] public section

noncomputable section

namespace Cert.Moe

open Idealize.ShloMosaic Idealize.SL.Sem Cert.KernelIdeal Cert.KernelIdeal.Gen

/-- The half of each cut axis a device holds. -/
theorem half (c : Dev nD) : Layout.meshLin [2, 2, 2] c.val [0] = c.val / 4 := by revert c; decide

/-- The whole array's row of a device's row. -/
def tok (c : Dev nD) (r : Fin 512) : Fin 1024 := ⟨c.val / 4 * 512 + r.val, by have : c.val < 8 := c.isLt; omega⟩

theorem own_val (c : Dev nD) (e : Fin 4) : (own c e).val = c.val / 4 * 4 + e.val := by
  have : c.val < 8 := c.isLt
  unfold own
  split <;> simp only <;> omega

variable (X : FVec Ideal ⟨2, ![1024, 1024]⟩ .f32) (R : FVec Ideal ⟨2, ![1024, 8]⟩ .f32)
  (A : FVec Ideal ⟨3, ![8, 1024, 2048]⟩ .f32) (B : FVec Ideal ⟨3, ![8, 2048, 1024]⟩ .f32)

section
variable (c : Dev nD)

theorem rows_at {α : Type} (v : (⟨2, ![1024, 1024]⟩ : Shape).Idx → α) (r : Fin 512) (k : Fin 1024) :
    (Layout.blockN ⟨2, ![512, 1024]⟩ ⟨2, ![1024, 1024]⟩ (Layout.meshBlock [2, 2, 2] ![[0], []] c) v : (⟨2, ![512, 1024]⟩ : Shape).Idx → _) (ix2 r k) = v (ix2 (tok c r) k) := by
  refine congrArg v (Shape.idx_ext₂ ?_ ?_)
  · show Layout.meshLin [2, 2, 2] c.val [0] * 512 + r.val = c.val / 4 * 512 + r.val
    rw [half]
  · show 0 * 1024 + k.val = k.val
    omega

theorem cols_at (k : Fin 1024) (e : Fin 4) :
    (Layout.blockN ⟨2, ![1024, 4]⟩ ⟨2, ![1024, 8]⟩ (Layout.meshBlock [2, 2, 2] ![[], [0]] c) R : (⟨2, ![1024, 4]⟩ : Shape).Idx → _) (ix2 k e) = R (ix2 k (own c e)) := by
  refine congrArg R (Shape.idx_ext₂ ?_ ?_)
  · show 0 * 1024 + k.val = k.val
    omega
  · show Layout.meshLin [2, 2, 2] c.val [0] * 4 + e.val = (own c e).val
    rw [half, own_val]

theorem inner_at (e : Fin 4) (k : Fin 1024) (f : Fin 2048) :
    (Layout.blockN ⟨3, ![4, 1024, 2048]⟩ ⟨3, ![8, 1024, 2048]⟩ (Layout.meshBlock [2, 2, 2] ![[0], [], []] c) A : (⟨3, ![4, 1024, 2048]⟩ : Shape).Idx → _) (ix3 e k f)
      = A (ix3 (own c e) k f) := by
  refine congrArg A (funext fun a => Fin.ext ?_)
  fin_cases a
  · show Layout.meshLin [2, 2, 2] c.val [0] * 4 + e.val = (own c e).val
    rw [half, own_val]
  · show 0 * 1024 + k.val = k.val
    omega
  · show 0 * 2048 + f.val = f.val
    omega

theorem outer_at (e : Fin 4) (f : Fin 2048) (d : Fin 1024) :
    (Layout.blockN ⟨3, ![4, 2048, 1024]⟩ ⟨3, ![8, 2048, 1024]⟩ (Layout.meshBlock [2, 2, 2] ![[0], [], []] c) B : (⟨3, ![4, 2048, 1024]⟩ : Shape).Idx → _) (ix3 e f d)
      = B (ix3 (own c e) f d) := by
  refine congrArg B (funext fun a => Fin.ext ?_)
  fin_cases a
  · show Layout.meshLin [2, 2, 2] c.val [0] * 4 + e.val = (own c e).val
    rw [half, own_val]
  · show 0 * 2048 + f.val = f.val
    omega
  · show 0 * 1024 + d.val = d.val
    omega
end

/-- A sum over the eight experts, the device's own first. -/
theorem experts (c : Dev nD) (h : Fin 8 → EReal) : (∑ e : Fin 4, h (own c e)) + ∑ e : Fin 4, h (own (peer c) e) = ∑ e, h e := by
  have hs : (∑ e : Fin 4, h ⟨e.val, by omega⟩) + ∑ e : Fin 4, h ⟨4 + e.val, by omega⟩ = ∑ e, h e :=
    (Fin.sum_univ_add (a := 4) (b := 4) h).symm
  have hp : (peer c).val < 4 ↔ ¬ c.val < 4 := by revert c; decide
  rw [← hs]
  unfold own
  by_cases hc : c.val < 4
  · simp only [hc, hp, if_true, if_false, not_true_eq_false]
  · simp only [hc, hp, if_true, if_false, not_false_eq_true]
    exact add_comm _ _

section
variable (m : (ℓ : Loc nD τ sig) → Buf (Elt Ideal) ℓ)

/-- Every device holds its blocks of the whole arrays. -/
structure Holds : Prop where
  x : ∀ c : Dev nD, ∀ r k, argX m c (ix2 r k) = X (ix2 (tok c r) k)
  r : ∀ c : Dev nD, ∀ k e, argR m c (ix2 k e) = R (ix2 k (own c e))
  a : ∀ c : Dev nD, ∀ e k f, argA m c (ix3 e k f) = A (ix3 (own c e) k f)
  b : ∀ c : Dev nD, ∀ e f d, argB m c (ix3 e f d) = B (ix3 (own c e) f d)

variable {X R A B m} (H : Holds X R A B m) (c : Dev nD)
include H

theorem Holds.gate (r : Fin 512) : gateAt m c r = gateRow X R (tok c r) := by
  funext e
  unfold gateAt gateRow
  have hp : (peer c).val < 4 ↔ ¬ c.val < 4 := by revert c; decide
  by_cases he : e.val < 4
  · rw [dif_pos he]
    refine Finset.sum_congr rfl fun k _ => ?_
    rw [H.x]
    congr 1
    by_cases hc : c.val < 4
    · rw [if_pos hc, H.r]
      simp only [own, hc, if_true]
    · rw [if_neg hc, H.r]
      simp only [own, hp.mpr hc, if_true]
  · rw [dif_neg he]
    refine Finset.sum_congr rfl fun k _ => ?_
    rw [H.x]
    congr 1
    have e4 : (⟨4 + (e.val - 4), by omega⟩ : Fin 8) = e := Fin.ext (by simp only; omega)
    by_cases hc : c.val < 4
    · rw [if_pos hc, H.r]
      simp only [own, hp, hc, not_true_eq_false, if_false, e4]
    · rw [if_neg hc, H.r]
      simp only [own, hc, if_false, e4]

/-- The kernel's result where the row's choice is clear: the reference's. -/
theorem Holds.out (r : Fin 512) (d : Fin 1024) (h : Clear (gateRow X R (tok c r))) :
    out3 m c (ix2 r d) = refAt X R A B (tok c r) d := by
  rw [out_at, H.gate]
  simp only [ffnAt, H.x, H.a, H.b]
  refine (experts c (fun e => ffn (fun k => X (ix2 (tok c r) k)) (fun k f => A (ix3 e k f)) (fun f => B (ix3 e f d))
    * wgt (gateRow X R (tok c r)) e)).trans ?_
  unfold refAt
  simp only [h.wgt]
end

local instance values_KernelIdeal : Cert.KernelIdeal.Facts := Cert.KernelIdeal.Gen.facts
local instance values_ReferenceIdeal : Cert.ReferenceIdeal.Facts := Cert.ReferenceIdeal.Gen.facts
local instance values_On_clear_choice : Cert.On_clear_choice.Facts := facts_mask

section
variable (m' : (ℓ : Loc Cert.ReferenceIdeal.nD Cert.ReferenceIdeal.τ Cert.ReferenceIdeal.sig) → Buf (Elt Ideal) ℓ)
/-- The reference's four arguments. -/
abbrev allX : FVec Ideal ⟨2, ![1024, 1024]⟩ .f32 :=
  m' (((0 : Dev Cert.ReferenceIdeal.nD).tc : Thread Cert.ReferenceIdeal.nD Cert.ReferenceIdeal.τ).loc Cert.ReferenceIdeal.main_arg0)
abbrev allR : FVec Ideal ⟨2, ![1024, 8]⟩ .f32 :=
  m' (((0 : Dev Cert.ReferenceIdeal.nD).tc : Thread Cert.ReferenceIdeal.nD Cert.ReferenceIdeal.τ).loc Cert.ReferenceIdeal.main_arg1)
abbrev allA : FVec Ideal ⟨3, ![8, 1024, 2048]⟩ .f32 :=
  m' (((0 : Dev Cert.ReferenceIdeal.nD).tc : Thread Cert.ReferenceIdeal.nD Cert.ReferenceIdeal.τ).loc Cert.ReferenceIdeal.main_arg2)
abbrev allB : FVec Ideal ⟨3, ![8, 2048, 1024]⟩ .f32 :=
  m' (((0 : Dev Cert.ReferenceIdeal.nD).tc : Thread Cert.ReferenceIdeal.nD Cert.ReferenceIdeal.τ).loc Cert.ReferenceIdeal.main_arg3)
/-- The whole result. -/
abbrev whole : FVec Ideal ⟨2, ![1024, 1024]⟩ .f32 := fun i => refAt (allX m') (allR m') (allA m') (allB m') (i 0) (i 1)
end

/-- The value claim: where the choice of a row is clear, every device ends with its rows of the reference's result. -/
theorem values : Cert.algebraic_KernelIdeal_ReferenceIdeal_on_clear_choice := by
  intro m ρ m' ρ' _ hb
  have H : Holds (allX m') (allR m') (allA m') (allB m') m :=
    ⟨fun c r k => (congrFun (hb c).1 (ix2 r k)).trans (rows_at c (allX m') r k),
     fun c k e => (congrFun (hb c).2.1 (ix2 k e)).trans (cols_at (allR m') c k e),
     fun c e k f => (congrFun (hb c).2.2.1 (ix3 e k f)).trans (inner_at (allA m') c e k f),
     fun c e f d => (congrFun (hb c).2.2.2 (ix3 e f d)).trans (outer_at (allB m') c e f d)⟩
  refine ⟨whole m', ?_, ?_⟩
  · refine (θ_run Cert.KernelIdeal.defs _ _).mono (fun r h c => ⟨fun i hi => ?_, (h c).2⟩) (run_out m ρ)
    refine (congrFun (h c).1 i).trans ?_
    obtain ⟨t, d, rfl⟩ : ∃ t d, i = ix2 t d := ⟨i 0, i 1, eq_ix2 i⟩
    have hm := (rows_at c (Cert.On_clear_choice.fn (F := Ideal) (allX m') (allR m') (allA m') (allB m')) t d).symm.trans hi
    exact (H.out c t d (clear_of_mask _ _ _ _ _ _ hm)).trans (rows_at c (whole m') t d).symm
  · refine (θ_run Cert.ReferenceIdeal.defs _ _).mono (fun r h => ⟨fun i _ => ?_, (h 0).2⟩) (run_plain m' ρ')
    obtain ⟨t, d, rfl⟩ : ∃ t d, i = ix2 t d := ⟨i 0, i 1, eq_ix2 i⟩
    exact (h 0).1 t d
end Cert.Moe
end
-- ==== Proof.lean ====
/- The claim, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Everything that is claimed: the three frames, the idealization, which rewrites nothing, and the result's value where
    the choice of a row's experts is clear. -/
theorem claim : Cert.Claim := ⟨Cert.Kernel.Gen.facts, Cert.KernelIdeal.Gen.facts, Cert.ReferenceIdeal.Gen.facts,
  Cert.Moe.facts_mask, Cert.Moe.frame_words, Cert.Moe.frame_ideal, Cert.Moe.frame_plain, trivial, Cert.Moe.values⟩

end Cert.Proof

end
